-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x20000x4 : Shape := ⟨3, ![8, 20000, 4]⟩
abbrev S8x20000x80 : Shape := ⟨3, ![8, 20000, 80]⟩
abbrev S8x20000x1 : Shape := ⟨3, ![8, 20000, 1]⟩
abbrev S1x2000x80 : Shape := ⟨3, ![1, 2000, 80]⟩
abbrev S1x2000x1 : Shape := ⟨3, ![1, 2000, 1]⟩
abbrev S2000x80 : Shape := ⟨2, ![2000, 80]⟩
abbrev S2000 : Shape := ⟨1, ![2000]⟩
abbrev S2000x1 : Shape := ⟨2, ![2000, 1]⟩
abbrev S8x20000 : Shape := ⟨2, ![8, 20000]⟩
abbrev S_ : Shape := ⟨0, ![]⟩
abbrev S8x96 : Shape := ⟨2, ![8, 96]⟩
abbrev S8x20096 : Shape := ⟨2, ![8, 20096]⟩
abbrev S8x157x128 : Shape := ⟨3, ![8, 157, 128]⟩
abbrev S8x4x20000 : Shape := ⟨3, ![8, 4, 20000]⟩
abbrev S8x4x96 : Shape := ⟨3, ![8, 4, 96]⟩
abbrev S8x4x20096 : Shape := ⟨3, ![8, 4, 20096]⟩
abbrev S8x4x157x128 : Shape := ⟨4, ![8, 4, 157, 128]⟩
abbrev S8x4x128 : Shape := ⟨3, ![8, 4, 128]⟩
abbrev S8x1x128 : Shape := ⟨3, ![8, 1, 128]⟩
abbrev S1x157x128 : Shape := ⟨3, ![1, 157, 128]⟩
abbrev S1x4x157x128 : Shape := ⟨4, ![1, 4, 157, 128]⟩
abbrev S1x4x128 : Shape := ⟨3, ![1, 4, 128]⟩
abbrev S1x1x128 : Shape := ⟨3, ![1, 1, 128]⟩
abbrev S157x128 : Shape := ⟨2, ![157, 128]⟩
abbrev S1x1x157x128 : Shape := ⟨4, ![1, 1, 157, 128]⟩
abbrev S1x128 : Shape := ⟨2, ![1, 128]⟩
abbrev S4x128 : Shape := ⟨2, ![4, 128]⟩
abbrev S1 : Shape := ⟨1, ![1]⟩
abbrev S1x1x1 : Shape := ⟨3, ![1, 1, 1]⟩
abbrev S1x1 : Shape := ⟨2, ![1, 1]⟩
abbrev S4x1 : Shape := ⟨2, ![4, 1]⟩
abbrev S8x128x4 : Shape := ⟨3, ![8, 128, 4]⟩
abbrev S8x100x4 : Shape := ⟨3, ![8, 100, 4]⟩
abbrev S8x1x100 : Shape := ⟨3, ![8, 1, 100]⟩
abbrev S8x100 : Shape := ⟨2, ![8, 100]⟩

abbrev nBuf : Space → Nat
  | .hbm => 28
  | .vmem => 18
  | .smem => 0
  | _ => 0

abbrev bufTy : (tb : Table) → Fin (tcTables nBuf tb) → BufTy
  | .hbm, ⟨0, _⟩ => ⟨S8x20000x4, .f32⟩
  | .hbm, ⟨1, _⟩ => ⟨S8x20000x80, .f32⟩
  | .hbm, ⟨2, _⟩ => ⟨S8x20000x1, .f32⟩
  | .hbm, ⟨3, _⟩ => ⟨S8x20000x1, .i32⟩
  | .hbm, ⟨4, _⟩ => ⟨S8x20000, .f32⟩
  | .hbm, ⟨5, _⟩ => ⟨S8x20000, .i32⟩
  | .hbm, ⟨6, _⟩ => ⟨S_, .f32⟩
  | .hbm, ⟨7, _⟩ => ⟨S8x96, .f32⟩
  | .hbm, ⟨8, _⟩ => ⟨S8x20096, .f32⟩
  | .hbm, ⟨9, _⟩ => ⟨S8x157x128, .f32⟩
  | .hbm, ⟨10, _⟩ => ⟨S_, .i32⟩
  | .hbm, ⟨11, _⟩ => ⟨S8x96, .i32⟩
  | .hbm, ⟨12, _⟩ => ⟨S8x20096, .i32⟩
  | .hbm, ⟨13, _⟩ => ⟨S8x157x128, .i32⟩
  | .hbm, ⟨14, _⟩ => ⟨S8x4x20000, .f32⟩
  | .hbm, ⟨15, _⟩ => ⟨S_, .f32⟩
  | .hbm, ⟨16, _⟩ => ⟨S8x4x96, .f32⟩
  | .hbm, ⟨17, _⟩ => ⟨S8x4x20096, .f32⟩
  | .hbm, ⟨18, _⟩ => ⟨S8x4x157x128, .f32⟩
  | .hbm, ⟨19, _⟩ => ⟨S8x4x128, .f32⟩
  | .hbm, ⟨20, _⟩ => ⟨S8x1x128, .f32⟩
  | .hbm, ⟨21, _⟩ => ⟨S8x1x128, .i32⟩
  | .hbm, ⟨22, _⟩ => ⟨S8x128x4, .f32⟩
  | .hbm, ⟨23, _⟩ => ⟨S8x100x4, .f32⟩
  | .hbm, ⟨24, _⟩ => ⟨S8x1x100, .f32⟩
  | .hbm, ⟨25, _⟩ => ⟨S8x100, .f32⟩
  | .hbm, ⟨26, _⟩ => ⟨S8x1x100, .i32⟩
  | .hbm, ⟨27, _⟩ => ⟨S8x100, .i32⟩
  | .local _ .vmem, ⟨0, _⟩ => ⟨S1x2000x80, .f32⟩
  | .local _ .vmem, ⟨1, _⟩ => ⟨S1x2000x80, .f32⟩
  | .local _ .vmem, ⟨2, _⟩ => ⟨S1x2000x1, .f32⟩
  | .local _ .vmem, ⟨3, _⟩ => ⟨S1x2000x1, .f32⟩
  | .local _ .vmem, ⟨4, _⟩ => ⟨S1x2000x1, .i32⟩
  | .local _ .vmem, ⟨5, _⟩ => ⟨S1x2000x1, .i32⟩
  | .local _ .vmem, ⟨6, _⟩ => ⟨S1x157x128, .f32⟩
  | .local _ .vmem, ⟨7, _⟩ => ⟨S1x157x128, .f32⟩
  | .local _ .vmem, ⟨8, _⟩ => ⟨S1x157x128, .i32⟩
  | .local _ .vmem, ⟨9, _⟩ => ⟨S1x157x128, .i32⟩
  | .local _ .vmem, ⟨10, _⟩ => ⟨S1x4x157x128, .f32⟩
  | .local _ .vmem, ⟨11, _⟩ => ⟨S1x4x157x128, .f32⟩
  | .local _ .vmem, ⟨12, _⟩ => ⟨S1x4x128, .f32⟩
  | .local _ .vmem, ⟨13, _⟩ => ⟨S1x4x128, .f32⟩
  | .local _ .vmem, ⟨14, _⟩ => ⟨S1x1x128, .f32⟩
  | .local _ .vmem, ⟨15, _⟩ => ⟨S1x1x128, .f32⟩
  | .local _ .vmem, ⟨16, _⟩ => ⟨S1x1x128, .i32⟩
  | .local _ .vmem, ⟨17, _⟩ => ⟨S1x1x128, .i32⟩
  | _, _ => ⟨S8x20000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v13_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

@[reducible] def k1_t1_loop : Scf.Loop 32 :=
  let c0_i32_21 : BitVec 32 := 0#32
  let c100_i32 : BitVec 32 := 100#32
  let v28 : BitVec 32 := Scalar.addi c0_i32_21 c100_i32
  let c1_i32 : BitVec 32 := 1#32
  ⟨c0_i32_21, v28, c1_i32⟩
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x157x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x157x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4x157x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x4x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x128 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S8x20000x4 : Shape := ⟨3, ![8, 20000, 4]⟩
abbrev S8x20000x80 : Shape := ⟨3, ![8, 20000, 80]⟩
abbrev S_ : Shape := ⟨0, ![]⟩
abbrev S8x20000 : Shape := ⟨2, ![8, 20000]⟩
abbrev S20000 : Shape := ⟨1, ![20000]⟩
abbrev S100x8 : Shape := ⟨2, ![100, 8]⟩
abbrev S8 : Shape := ⟨1, ![8]⟩
abbrev S8x1 : Shape := ⟨2, ![8, 1]⟩
abbrev S8x4 : Shape := ⟨2, ![8, 4]⟩
abbrev S8x2 : Shape := ⟨2, ![8, 2]⟩
abbrev S8x20000x2 : Shape := ⟨3, ![8, 20000, 2]⟩
abbrev S8x1x2 : Shape := ⟨3, ![8, 1, 2]⟩
abbrev S8x20000x1 : Shape := ⟨3, ![8, 20000, 1]⟩
abbrev S1x20000 : Shape := ⟨2, ![1, 20000]⟩
abbrev S1x8 : Shape := ⟨2, ![1, 8]⟩
abbrev S8x100 : Shape := ⟨2, ![8, 100]⟩
abbrev S8x100x1 : Shape := ⟨3, ![8, 100, 1]⟩
abbrev S8x100x2 : Shape := ⟨3, ![8, 100, 2]⟩
abbrev S8x100x4 : Shape := ⟨3, ![8, 100, 4]⟩
abbrev S100x4 : Shape := ⟨2, ![100, 4]⟩
abbrev S100 : Shape := ⟨1, ![100]⟩

abbrev nBuf : Space → Nat
  | .hbm => 176
  | .vmem => 0
  | .smem => 0
  | _ => 0

abbrev hbmTy0_0 (i : Nat) : BufTy := match i % 128 with
  | 0 => ⟨S8x20000x4, .f32⟩
  | 1 => ⟨S8x20000x80, .f32⟩
  | 2 => ⟨S_, .f32⟩
  | 3 => ⟨S8x20000, .f32⟩
  | 4 => ⟨S_, .f32⟩
  | 5 => ⟨S8x20000, .f32⟩
  | 6 => ⟨S8x20000, .i1⟩
  | 7 => ⟨S_, .f32⟩
  | 8 => ⟨S_, .f32⟩
  | 9 => ⟨S20000, .f32⟩
  | 10 => ⟨S8x20000, .f32⟩
  | 11 => ⟨S8x20000, .f32⟩
  | 12 => ⟨S_, .i32⟩
  | 13 => ⟨S100x8, .i32⟩
  | 14 => ⟨S_, .i1⟩
  | 15 => ⟨S100x8, .i1⟩
  | 16 => ⟨S_, .i32⟩
  | 17 => ⟨S8x20000x4, .f32⟩
  | 18 => ⟨S_, .i32⟩
  | 19 => ⟨S8x20000, .f32⟩
  | 20 => ⟨S100x8, .i32⟩
  | 21 => ⟨S100x8, .i1⟩
  | 22 => ⟨S_, .i32⟩
  | 23 => ⟨S_, .i1⟩
  | 24 => ⟨S8x20000, .i32⟩
  | 25 => ⟨S_, .f32⟩
  | 26 => ⟨S_, .i32⟩
  | 27 => ⟨S8, .f32⟩
  | 28 => ⟨S8, .i32⟩
  | 29 => ⟨S8x1, .i32⟩
  | 30 => ⟨S8, .f32⟩
  | 31 => ⟨S_, .f32⟩
  | 32 => ⟨S8, .f32⟩
  | 33 => ⟨S8, .i1⟩
  | 34 => ⟨S8x1, .i32⟩
  | 35 => ⟨S8x4, .f32⟩
  | 36 => ⟨S8x2, .f32⟩
  | 37 => ⟨S8x20000x2, .f32⟩
  | 38 => ⟨S8x1x2, .f32⟩
  | 39 => ⟨S8x20000x2, .f32⟩
  | 40 => ⟨S8x20000x2, .f32⟩
  | 41 => ⟨S8x2, .f32⟩
  | 42 => ⟨S8x20000x2, .f32⟩
  | 43 => ⟨S8x1x2, .f32⟩
  | 44 => ⟨S8x20000x2, .f32⟩
  | 45 => ⟨S8x20000x2, .f32⟩
  | 46 => ⟨S8x20000x2, .f32⟩
  | 47 => ⟨S_, .f32⟩
  | 48 => ⟨S8x20000x2, .f32⟩
  | 49 => ⟨S8x20000x2, .f32⟩
  | 50 => ⟨S8x20000x1, .f32⟩
  | 51 => ⟨S8x20000, .f32⟩
  | 52 => ⟨S8x20000x1, .f32⟩
  | 53 => ⟨S8x20000, .f32⟩
  | 54 => ⟨S8x20000, .f32⟩
  | 55 => ⟨S8x2, .f32⟩
  | 56 => ⟨S8x2, .f32⟩
  | 57 => ⟨S8x2, .f32⟩
  | 58 => ⟨S_, .f32⟩
  | 59 => ⟨S8x2, .f32⟩
  | 60 => ⟨S8x2, .f32⟩
  | 61 => ⟨S8x1, .f32⟩
  | 62 => ⟨S8, .f32⟩
  | 63 => ⟨S8x1, .f32⟩
  | 64 => ⟨S8, .f32⟩
  | 65 => ⟨S8, .f32⟩
  | 66 => ⟨S8x20000x2, .f32⟩
  | 67 => ⟨S8x20000x2, .f32⟩
  | 68 => ⟨S8x20000x2, .f32⟩
  | 69 => ⟨S_, .f32⟩
  | 70 => ⟨S8x20000x2, .f32⟩
  | 71 => ⟨S8x20000x2, .f32⟩
  | 72 => ⟨S8x20000x1, .f32⟩
  | 73 => ⟨S8x20000, .f32⟩
  | 74 => ⟨S8x20000x1, .f32⟩
  | 75 => ⟨S8x20000, .f32⟩
  | 76 => ⟨S8x20000, .f32⟩
  | 77 => ⟨S8x1, .f32⟩
  | 78 => ⟨S8x20000, .f32⟩
  | 79 => ⟨S8x20000, .f32⟩
  | 80 => ⟨S8x20000, .f32⟩
  | 81 => ⟨S_, .f32⟩
  | 82 => ⟨S8x20000, .f32⟩
  | 83 => ⟨S8x20000, .f32⟩
  | 84 => ⟨S8x20000, .f32⟩
  | 85 => ⟨S_, .f32⟩
  | 86 => ⟨S8x20000, .f32⟩
  | 87 => ⟨S8x20000, .i1⟩
  | 88 => ⟨S_, .f32⟩
  | 89 => ⟨S_, .f32⟩
  | 90 => ⟨S20000, .f32⟩
  | 91 => ⟨S8x20000, .f32⟩
  | 92 => ⟨S8x20000, .f32⟩
  | 93 => ⟨S20000, .i32⟩
  | 94 => ⟨S1x20000, .i32⟩
  | 95 => ⟨S8x1, .i32⟩
  | 96 => ⟨S8x20000, .i32⟩
  | 97 => ⟨S8x20000, .i32⟩
  | 98 => ⟨S8x20000, .i1⟩
  | 99 => ⟨S_, .f32⟩
  | 100 => ⟨S_, .f32⟩
  | 101 => ⟨S20000, .f32⟩
  | 102 => ⟨S8x20000, .f32⟩
  | 103 => ⟨S8x20000, .f32⟩
  | 104 => ⟨S1x8, .i32⟩
  | 105 => ⟨S_, .i32⟩
  | 106 => ⟨S100x8, .i32⟩
  | 107 => ⟨S1x8, .i1⟩
  | 108 => ⟨S_, .i32⟩
  | 109 => ⟨S100x8, .i1⟩
  | 110 => ⟨S_, .i32⟩
  | 111 => ⟨S_, .i32⟩
  | 112 => ⟨S8x20000x80, .i32⟩
  | 113 => ⟨S_, .f32⟩
  | 114 => ⟨S_, .i32⟩
  | 115 => ⟨S8x20000, .f32⟩
  | 116 => ⟨S8x20000, .i32⟩
  | 117 => ⟨S_, .i32⟩
  | 118 => ⟨S100x8, .i32⟩
  | 119 => ⟨S100x8, .i1⟩
  | 120 => ⟨S_, .i32⟩
  | 121 => ⟨S100x8, .i32⟩
  | 122 => ⟨S100x8, .i32⟩
  | 123 => ⟨S100x8, .i32⟩
  | 124 => ⟨S8x100, .i32⟩
  | 125 => ⟨S8x100x1, .i32⟩
  | 126 => ⟨S8x100, .i32⟩
  | 127 => ⟨S_, .i32⟩
  | _ => ⟨S8x20000x4, .f32⟩

abbrev hbmTy0_1 (i : Nat) : BufTy := match i % 128 with
  | 0 => ⟨S100x8, .i32⟩
  | 1 => ⟨S100x8, .i1⟩
  | 2 => ⟨S_, .i32⟩
  | 3 => ⟨S100x8, .i32⟩
  | 4 => ⟨S100x8, .i32⟩
  | 5 => ⟨S100x8, .i32⟩
  | 6 => ⟨S_, .i32⟩
  | 7 => ⟨S8x100, .i32⟩
  | 8 => ⟨S8x100, .i1⟩
  | 9 => ⟨S_, .i32⟩
  | 10 => ⟨S8x100, .i32⟩
  | 11 => ⟨S8x100, .i32⟩
  | 12 => ⟨S8x100, .i32⟩
  | 13 => ⟨S8x100, .i32⟩
  | 14 => ⟨S8x100x1, .i32⟩
  | 15 => ⟨S8x100x1, .i32⟩
  | 16 => ⟨S8x100x2, .i32⟩
  | 17 => ⟨S8x100, .f32⟩
  | 18 => ⟨S_, .i32⟩
  | 19 => ⟨S100x8, .i32⟩
  | 20 => ⟨S100x8, .i1⟩
  | 21 => ⟨S_, .i32⟩
  | 22 => ⟨S100x8, .i32⟩
  | 23 => ⟨S100x8, .i32⟩
  | 24 => ⟨S100x8, .i32⟩
  | 25 => ⟨S8x100, .i32⟩
  | 26 => ⟨S8x100x1, .i32⟩
  | 27 => ⟨S8x100x4, .f32⟩
  | 28 => ⟨S8x100, .i1⟩
  | 29 => ⟨S8x100x1, .i1⟩
  | 30 => ⟨S_, .f32⟩
  | 31 => ⟨S_, .f32⟩
  | 32 => ⟨S8x100x4, .i1⟩
  | 33 => ⟨S100x4, .f32⟩
  | 34 => ⟨S8x100x4, .f32⟩
  | 35 => ⟨S8x100x4, .f32⟩
  | 36 => ⟨S_, .f32⟩
  | 37 => ⟨S_, .f32⟩
  | 38 => ⟨S100, .f32⟩
  | 39 => ⟨S8x100, .i1⟩
  | 40 => ⟨S8x100, .f32⟩
  | 41 => ⟨S8x100, .f32⟩
  | 42 => ⟨S_, .i32⟩
  | 43 => ⟨S_, .i32⟩
  | 44 => ⟨S100, .i32⟩
  | 45 => ⟨S8x100, .i1⟩
  | 46 => ⟨S8x100, .i32⟩
  | 47 => ⟨S8x100, .i32⟩
  | _ => ⟨S8x20000x4, .f32⟩

abbrev hbmTy (i : Nat) : BufTy := match i / 128 with
  | 0 => hbmTy0_0 i
  | 1 => hbmTy0_1 i
  | _ => ⟨S8x20000x4, .f32⟩

abbrev bufTy : (tb : Table) → Fin (tcTables nBuf tb) → BufTy
  | .hbm, ⟨i, _⟩ => hbmTy i
  | _, _ => ⟨S8x20000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_c_2 : Ref sig .tc := ⟨.hbm, 14, rfl⟩
abbrev main_v5 : Ref sig .tc := ⟨.hbm, 15, rfl⟩
abbrev main_c_3 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_while0c_c_19 : Ref sig .tc := ⟨.hbm, 22, rfl⟩
abbrev main_while0c_v44 : Ref sig .tc := ⟨.hbm, 23, rfl⟩
abbrev main_while0b_call1_v0 : Ref sig .tc := ⟨.hbm, 24, rfl⟩
abbrev main_while0b_call1_cst : Ref sig .tc := ⟨.hbm, 25, rfl⟩
abbrev main_while0b_call1_c : Ref sig .tc := ⟨.hbm, 26, rfl⟩
abbrev main_while0b_call1_v1_0 : Ref sig .tc := ⟨.hbm, 27, rfl⟩
abbrev main_while0b_v44 : Ref sig .tc := ⟨.hbm, 28, rfl⟩
abbrev main_while0b_call2_v0 : Ref sig .tc := ⟨.hbm, 29, rfl⟩
abbrev main_while0b_v45 : Ref sig .tc := ⟨.hbm, 30, rfl⟩
abbrev main_while0b_cst_19 : Ref sig .tc := ⟨.hbm, 31, rfl⟩
abbrev main_while0b_v46 : Ref sig .tc := ⟨.hbm, 32, rfl⟩
abbrev main_while0b_v47 : Ref sig .tc := ⟨.hbm, 33, rfl⟩
abbrev main_while0b_call3_v0 : Ref sig .tc := ⟨.hbm, 34, rfl⟩
abbrev main_while0b_v48 : Ref sig .tc := ⟨.hbm, 35, rfl⟩
abbrev main_while0b_v49 : Ref sig .tc := ⟨.hbm, 36, rfl⟩
abbrev main_while0b_v50 : Ref sig .tc := ⟨.hbm, 37, rfl⟩
abbrev main_while0b_v51 : Ref sig .tc := ⟨.hbm, 38, rfl⟩
abbrev main_while0b_v52 : Ref sig .tc := ⟨.hbm, 39, rfl⟩
abbrev main_while0b_v53 : Ref sig .tc := ⟨.hbm, 40, rfl⟩
abbrev main_while0b_v54 : Ref sig .tc := ⟨.hbm, 41, rfl⟩
abbrev main_while0b_v55 : Ref sig .tc := ⟨.hbm, 42, rfl⟩
abbrev main_while0b_v56 : Ref sig .tc := ⟨.hbm, 43, rfl⟩
abbrev main_while0b_v57 : Ref sig .tc := ⟨.hbm, 44, rfl⟩
abbrev main_while0b_v58 : Ref sig .tc := ⟨.hbm, 45, rfl⟩
abbrev main_while0b_v59 : Ref sig .tc := ⟨.hbm, 46, rfl⟩
abbrev main_while0b_cst_20 : Ref sig .tc := ⟨.hbm, 47, rfl⟩
abbrev main_while0b_v60 : Ref sig .tc := ⟨.hbm, 48, rfl⟩
abbrev main_while0b_v61 : Ref sig .tc := ⟨.hbm, 49, rfl⟩
abbrev main_while0b_v62 : Ref sig .tc := ⟨.hbm, 50, rfl⟩
abbrev main_while0b_v63 : Ref sig .tc := ⟨.hbm, 51, rfl⟩
abbrev main_while0b_v64 : Ref sig .tc := ⟨.hbm, 52, rfl⟩
abbrev main_while0b_v65 : Ref sig .tc := ⟨.hbm, 53, rfl⟩
abbrev main_while0b_v66 : Ref sig .tc := ⟨.hbm, 54, rfl⟩
abbrev main_while0b_v67 : Ref sig .tc := ⟨.hbm, 55, rfl⟩
abbrev main_while0b_v68 : Ref sig .tc := ⟨.hbm, 56, rfl⟩
abbrev main_while0b_v69 : Ref sig .tc := ⟨.hbm, 57, rfl⟩
abbrev main_while0b_cst_21 : Ref sig .tc := ⟨.hbm, 58, rfl⟩
abbrev main_while0b_v70 : Ref sig .tc := ⟨.hbm, 59, rfl⟩
abbrev main_while0b_v71 : Ref sig .tc := ⟨.hbm, 60, rfl⟩
abbrev main_while0b_v72 : Ref sig .tc := ⟨.hbm, 61, rfl⟩
abbrev main_while0b_v73 : Ref sig .tc := ⟨.hbm, 62, rfl⟩
abbrev main_while0b_v74 : Ref sig .tc := ⟨.hbm, 63, rfl⟩
abbrev main_while0b_v75 : Ref sig .tc := ⟨.hbm, 64, rfl⟩
abbrev main_while0b_v76 : Ref sig .tc := ⟨.hbm, 65, rfl⟩
abbrev main_while0b_v77 : Ref sig .tc := ⟨.hbm, 66, rfl⟩
abbrev main_while0b_v78 : Ref sig .tc := ⟨.hbm, 67, rfl⟩
abbrev main_while0b_v79 : Ref sig .tc := ⟨.hbm, 68, rfl⟩
abbrev main_while0b_cst_22 : Ref sig .tc := ⟨.hbm, 69, rfl⟩
abbrev main_while0b_v80 : Ref sig .tc := ⟨.hbm, 70, rfl⟩
abbrev main_while0b_v81 : Ref sig .tc := ⟨.hbm, 71, rfl⟩
abbrev main_while0b_v82 : Ref sig .tc := ⟨.hbm, 72, rfl⟩
abbrev main_while0b_v83 : Ref sig .tc := ⟨.hbm, 73, rfl⟩
abbrev main_while0b_v84 : Ref sig .tc := ⟨.hbm, 74, rfl⟩
abbrev main_while0b_v85 : Ref sig .tc := ⟨.hbm, 75, rfl⟩
abbrev main_while0b_v86 : Ref sig .tc := ⟨.hbm, 76, rfl⟩
abbrev main_while0b_v87 : Ref sig .tc := ⟨.hbm, 77, rfl⟩
abbrev main_while0b_v88 : Ref sig .tc := ⟨.hbm, 78, rfl⟩
abbrev main_while0b_v89 : Ref sig .tc := ⟨.hbm, 79, rfl⟩
abbrev main_while0b_v90 : Ref sig .tc := ⟨.hbm, 80, rfl⟩
abbrev main_while0b_cst_23 : Ref sig .tc := ⟨.hbm, 81, rfl⟩
abbrev main_while0b_v91 : Ref sig .tc := ⟨.hbm, 82, rfl⟩
abbrev main_while0b_v92 : Ref sig .tc := ⟨.hbm, 83, rfl⟩
abbrev main_while0b_v93 : Ref sig .tc := ⟨.hbm, 84, rfl⟩
abbrev main_while0b_cst_24 : Ref sig .tc := ⟨.hbm, 85, rfl⟩
abbrev main_while0b_v94 : Ref sig .tc := ⟨.hbm, 86, rfl⟩
abbrev main_while0b_v95 : Ref sig .tc := ⟨.hbm, 87, rfl⟩
abbrev main_while0b_cst_25 : Ref sig .tc := ⟨.hbm, 88, rfl⟩
abbrev main_while0b_call4_v0 : Ref sig .tc := ⟨.hbm, 89, rfl⟩
abbrev main_while0b_call4_v1 : Ref sig .tc := ⟨.hbm, 90, rfl⟩
abbrev main_while0b_call4_v2 : Ref sig .tc := ⟨.hbm, 91, rfl⟩
abbrev main_while0b_v96 : Ref sig .tc := ⟨.hbm, 92, rfl⟩
abbrev main_while0b_v97 : Ref sig .tc := ⟨.hbm, 93, rfl⟩
abbrev main_while0b_v98 : Ref sig .tc := ⟨.hbm, 94, rfl⟩
abbrev main_while0b_v99 : Ref sig .tc := ⟨.hbm, 95, rfl⟩
abbrev main_while0b_v100 : Ref sig .tc := ⟨.hbm, 96, rfl⟩
abbrev main_while0b_v101 : Ref sig .tc := ⟨.hbm, 97, rfl⟩
abbrev main_while0b_v102 : Ref sig .tc := ⟨.hbm, 98, rfl⟩
abbrev main_while0b_cst_26 : Ref sig .tc := ⟨.hbm, 99, rfl⟩
abbrev main_while0b_call5_v0 : Ref sig .tc := ⟨.hbm, 100, rfl⟩
abbrev main_while0b_call5_v1 : Ref sig .tc := ⟨.hbm, 101, rfl⟩
abbrev main_while0b_call5_v2 : Ref sig .tc := ⟨.hbm, 102, rfl⟩
abbrev main_while0b_v103 : Ref sig .tc := ⟨.hbm, 103, rfl⟩
abbrev main_while0b_call6_v0 : Ref sig .tc := ⟨.hbm, 104, rfl⟩
abbrev main_while0b_call6_c : Ref sig .tc := ⟨.hbm, 105, rfl⟩
abbrev main_while0b_v104 : Ref sig .tc := ⟨.hbm, 106, rfl⟩
abbrev main_while0b_call7_v0 : Ref sig .tc := ⟨.hbm, 107, rfl⟩
abbrev main_while0b_call7_c : Ref sig .tc := ⟨.hbm, 108, rfl⟩
abbrev main_while0b_v105 : Ref sig .tc := ⟨.hbm, 109, rfl⟩
abbrev main_while0b_c_27 : Ref sig .tc := ⟨.hbm, 110, rfl⟩
abbrev main_while0b_v106 : Ref sig .tc := ⟨.hbm, 111, rfl⟩
abbrev main_call8_v0 : Ref sig .tc := ⟨.hbm, 112, rfl⟩
abbrev main_call8_cst : Ref sig .tc := ⟨.hbm, 113, rfl⟩
abbrev main_call8_c : Ref sig .tc := ⟨.hbm, 114, rfl⟩
abbrev main_call8_v1_0 : Ref sig .tc := ⟨.hbm, 115, rfl⟩
abbrev main_v7 : Ref sig .tc := ⟨.hbm, 116, rfl⟩
abbrev main_c_4 : Ref sig .tc := ⟨.hbm, 117, rfl⟩
abbrev main_v8 : Ref sig .tc := ⟨.hbm, 118, rfl⟩
abbrev main_v9 : Ref sig .tc := ⟨.hbm, 119, rfl⟩
abbrev main_c_5 : Ref sig .tc := ⟨.hbm, 120, rfl⟩
abbrev main_v10 : Ref sig .tc := ⟨.hbm, 121, rfl⟩
abbrev main_v11 : Ref sig .tc := ⟨.hbm, 122, rfl⟩
abbrev main_v12 : Ref sig .tc := ⟨.hbm, 123, rfl⟩
abbrev main_v13 : Ref sig .tc := ⟨.hbm, 124, rfl⟩
abbrev main_v14 : Ref sig .tc := ⟨.hbm, 125, rfl⟩
abbrev main_v15 : Ref sig .tc := ⟨.hbm, 126, rfl⟩
abbrev main_c_6 : Ref sig .tc := ⟨.hbm, 127, rfl⟩
abbrev main_v16 : Ref sig .tc := ⟨.hbm, 128, rfl⟩
abbrev main_v17 : Ref sig .tc := ⟨.hbm, 129, rfl⟩
abbrev main_c_7 : Ref sig .tc := ⟨.hbm, 130, rfl⟩
abbrev main_v18 : Ref sig .tc := ⟨.hbm, 131, rfl⟩
abbrev main_v19 : Ref sig .tc := ⟨.hbm, 132, rfl⟩
abbrev main_v20 : Ref sig .tc := ⟨.hbm, 133, rfl⟩
abbrev main_c_8 : Ref sig .tc := ⟨.hbm, 134, rfl⟩
abbrev main_v21 : Ref sig .tc := ⟨.hbm, 135, rfl⟩
abbrev main_v22 : Ref sig .tc := ⟨.hbm, 136, rfl⟩
abbrev main_c_9 : Ref sig .tc := ⟨.hbm, 137, rfl⟩
abbrev main_v23 : Ref sig .tc := ⟨.hbm, 138, rfl⟩
abbrev main_v24 : Ref sig .tc := ⟨.hbm, 139, rfl⟩
abbrev main_v25 : Ref sig .tc := ⟨.hbm, 140, rfl⟩
abbrev main_v26 : Ref sig .tc := ⟨.hbm, 141, rfl⟩
abbrev main_v27 : Ref sig .tc := ⟨.hbm, 142, rfl⟩
abbrev main_v28 : Ref sig .tc := ⟨.hbm, 143, rfl⟩
abbrev main_v29 : Ref sig .tc := ⟨.hbm, 144, rfl⟩
abbrev main_v30 : Ref sig .tc := ⟨.hbm, 145, rfl⟩
abbrev main_c_10 : Ref sig .tc := ⟨.hbm, 146, rfl⟩
abbrev main_v31 : Ref sig .tc := ⟨.hbm, 147, rfl⟩
abbrev main_v32 : Ref sig .tc := ⟨.hbm, 148, rfl⟩
abbrev main_c_11 : Ref sig .tc := ⟨.hbm, 149, rfl⟩
abbrev main_v33 : Ref sig .tc := ⟨.hbm, 150, rfl⟩
abbrev main_v34 : Ref sig .tc := ⟨.hbm, 151, rfl⟩
abbrev main_v35 : Ref sig .tc := ⟨.hbm, 152, rfl⟩
abbrev main_v36 : Ref sig .tc := ⟨.hbm, 153, rfl⟩
abbrev main_v37 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_cst_12 : Ref sig .tc := ⟨.hbm, 158, rfl⟩
abbrev main_call9_v0 : Ref sig .tc := ⟨.hbm, 159, rfl⟩
abbrev main_call9_v1 : Ref sig .tc := ⟨.hbm, 160, rfl⟩
abbrev main_call9_v2 : Ref sig .tc := ⟨.hbm, 161, rfl⟩
abbrev main_call9_v3 : Ref sig .tc := ⟨.hbm, 162, rfl⟩
abbrev main_v41 : Ref sig .tc := ⟨.hbm, 163, rfl⟩
abbrev main_cst_13 : Ref sig .tc := ⟨.hbm, 164, rfl⟩
abbrev main_call10_v0 : Ref sig .tc := ⟨.hbm, 165, rfl⟩
abbrev main_call10_v1 : Ref sig .tc := ⟨.hbm, 166, rfl⟩
abbrev main_call10_v2 : Ref sig .tc := ⟨.hbm, 167, rfl⟩
abbrev main_call10_v3 : Ref sig .tc := ⟨.hbm, 168, rfl⟩
abbrev main_v42 : Ref sig .tc := ⟨.hbm, 169, rfl⟩
abbrev main_c_14 : Ref sig .tc := ⟨.hbm, 170, rfl⟩
abbrev main_call11_v0 : Ref sig .tc := ⟨.hbm, 171, rfl⟩
abbrev main_call11_v1 : Ref sig .tc := ⟨.hbm, 172, rfl⟩
abbrev main_call11_v2 : Ref sig .tc := ⟨.hbm, 173, rfl⟩
abbrev main_call11_v3 : Ref sig .tc := ⟨.hbm, 174, rfl⟩
abbrev main_v43 : Ref sig .tc := ⟨.hbm, 175, rfl⟩

abbrev nD : Nat := 1
abbrev τ : Topo := Topo.v7x

variable {F : FTy → Type} [FloatOps F]

abbrev main_while0_count : Scf.Loop 32 := ⟨0#32, 100#32, 1#32⟩
-- ==== Proof.IdealStage.lean ====
/- The first `pallas_call`: per box the largest class score, kept when it is over the threshold, and its class.
   What the body leaves in its two output blocks, and its run at any grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the pallas_call is entered
variable (V : (c : Dev nD) → (b : Ref sig .tc) → Buf (Elt F) ((c : Thread nD τ).loc b))

/-- Window `w`'s block at grid point `t`, read from its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every point, when the body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x2000x80 := Rect.unit (s := S1x2000x80) ![0, 0, 0] S1x2000x80.size inb_S1x2000x80_S1x2000x80_0_0_0
abbrev r0_1 : Rect S1x2000x1 := Rect.unit (s := S1x2000x1) ![0, 0, 0] S1x2000x1.size inb_S1x2000x1_S1x2000x1_0_0_0

/-- The scores block the first body leaves. -/
def out0_1 (x0 : Vec F S1x2000x80 .f32) : Vec F S1x2000x1 .f32 :=
  View.canon [⟨r0_1, k0_pay3 (View.ld x0 r0_0)⟩]

/-- The one store covers the block. -/
theorem cover0_1 (p0 : Vec F S1x2000x1 .f32) (y : S1x2000x1.Idx) :
    ∃ pc ∈ ([⟨r0_1, p0⟩] : List (View.Piece (Elt F) S1x2000x1 .f32)), y ∈ pc.1.set :=
  View.cover_of_tiled [⟨r0_1, p0⟩] S1x2000x1.size (by rfl) y

/-- The labels block the first body leaves. -/
def out0_2 (x0 : Vec F S1x2000x80 .f32) : Vec F S1x2000x1 .i32 :=
  View.canon [⟨r0_1, k0_pay4 (View.ld x0 r0_0)⟩]

/-- The one store covers the block. -/
theorem cover0_2 (p0 : Vec F S1x2000x1 .i32) (y : S1x2000x1.Idx) :
    ∃ pc ∈ ([⟨r0_1, p0⟩] : List (View.Piece (Elt F) S1x2000x1 .i32)), y ∈ pc.1.set :=
  View.cover_of_tiled [⟨r0_1, p0⟩] S1x2000x1.size (by rfl) y

set_option maxHeartbeats 1000000 in
/-- The body on whole blocks: inputs kept, outputs at the values above. -/
theorem sound_kernel0 (c : Dev nD) (E : Set ℕ) (i : grid0.Coords) (arg2 : Memref sig .tc .vmem S1x2000x80 .f32) (harg2 : arg2.IsWhole) (arg3 : Memref sig .tc .vmem S1x2000x1 .f32) (harg3 : arg3.IsWhole) (arg4 : Memref sig .tc .vmem S1x2000x1 .i32) (harg4 : arg4.IsWhole)
    (x0 : Vec F S1x2000x80 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (out0_1 x0) ∗ owns (c : Thread nD τ) arg4 fullShare (out0_2 x0)) -∗ K ⟨⟩))
      ⊢ wp frame (wpE (defs₀ (F := F)) Variants.none c none) E (cc0__stage1_body i arg2 harg2 arg3 harg3 arg4 harg4) K := by
  simp only [cc0__stage1_body_eq_skeleton]; unfold cc0__stage1_body_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The call's proof data: arrays as found, each input block left alone, each output block at what the body leaves. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The arrays of the proof data are the contents at entry. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- An input window holds its block at every point. -/
theorem before0_0 (c : Dev nD) (t : Fin cfg0.N) (d) : (dat0 V c).before 0 t d = iblk0 V c 0 t :=
  before0_0_of V (dat0 V c) (A_eq0 V c 0) (after0_0 V c) t d

/-- What the body is entered with at point `t`: the windows' blocks, one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it gives back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any grid point, from its run on whole blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's table entry at the point's blocks. -/
theorem defs₀_row0 (t : Fin cfg0.N) :
    defs₀ (F := F) .tc cfg0.body (cfg0.bodyArgs t (cfg0.slots t)) = bodyAt0 t := by
  unfold defs₀; rw [Defs.onTc_tc]

/-- The pipeline's obligation on the body. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl
end Cert.KernelIdeal.Gen

end
-- ==== Proof.IdealNms.lean ====
/- The second `pallas_call`: one image's hundred greedy picks, a counted loop over four carried arrays.
   What the loop leaves in the three output blocks, and the body's run at any grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the pallas_call is entered
variable (V : (c : Dev nD) → (b : Ref sig .tc) → Buf (Elt F) ((c : Thread nD τ).loc b))

/-- Window `w`'s block at grid point `t`, read from its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every point, when the body leaves that block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, when the body leaves that block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input window holds its block at every point, when the body leaves that block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x157x128 := Rect.unit (s := S1x157x128) ![0, 0, 0] S1x157x128.size inb_S1x157x128_S1x157x128_0_0_0
abbrev r1_1 : Rect S1x4x157x128 := Rect.unit (s := S1x4x157x128) ![0, 0, 0, 0] S1x1x157x128.size inb_S1x4x157x128_S1x1x157x128_0_0_0_0
abbrev r1_2 : Rect S1x4x157x128 := Rect.unit (s := S1x4x157x128) ![0, 1, 0, 0] S1x1x157x128.size inb_S1x4x157x128_S1x1x157x128_0_1_0_0
abbrev r1_3 : Rect S1x4x157x128 := Rect.unit (s := S1x4x157x128) ![0, 2, 0, 0] S1x1x157x128.size inb_S1x4x157x128_S1x1x157x128_0_2_0_0
abbrev r1_4 : Rect S1x4x157x128 := Rect.unit (s := S1x4x157x128) ![0, 3, 0, 0] S1x1x157x128.size inb_S1x4x157x128_S1x1x157x128_0_3_0_0
abbrev r1_5 : Rect S1x1x128 := Rect.unit (s := S1x1x128) ![0, 0, 0] S1x1x128.size inb_S1x1x128_S1x1x128_0_0_0
abbrev r1_6 : Rect S1x4x128 := Rect.unit (s := S1x4x128) ![0, 0, 0] S1x4x128.size inb_S1x4x128_S1x4x128_0_0_0

/-- What one trip carries: the scores still standing, and the picked scores, labels and boxes so far. -/
abbrev NmsAcc (F : FTy → Type) : Type :=
  FVec F S157x128 .f32 × FVec F S1x128 .f32 × IVec S1x128 32 × FVec F S4x128 .f32

/-- One trip of the greedy loop as a function: the best standing score is picked, its label and box are read out, every
    box overlapping it is struck out, and the pick is written to lane `k` of the three accumulators. -/
def nmsTrip (lab : IVec S157x128 32) (x1 y1 x2 y2 area : FVec F S157x128 .f32) (k : Fin k1_t1_loop.trips)
    (a : NmsAcc F) : NmsAcc F :=
  let best : F .f32 := k1_pay5 a.1
  let keep : BitVec 1 := Scalar.cmpf .ogt best (Scalar.ofBits .f32 0xF0C9F2CA#32)
  let isb : IVec S157x128 1 := k1_pay6 k1_pay24 a.1
  let lanes : IVec S1x128 32 := iota .tc S1x128 32 [1] iota_S1x128_d1_w32
  let iv : BitVec 32 := Scf.iv 0#32 1#32 k
  (k1_pay12 x1 y1 x2 y2 area a.1 isb (k1_pay7 x1 k1_pay24 a.1) (k1_pay8 y1 k1_pay24 a.1) (k1_pay9 x2 k1_pay24 a.1) (k1_pay10 y2 k1_pay24 a.1),
   k1_pay14 lanes a.2.1 iv best keep,
   k1_pay15 lanes a.2.2.1 iv keep (extractAt ![0, 0, 0] (k1_pay11 lab k1_pay24 a.1) inpos_S1x1x1_p0_0_0),
   k1_pay1 a.2.2.2 keep (k1_pay13 lanes iv) (k1_pay16 (k1_pay7 x1 k1_pay24 a.1) (k1_pay8 y1 k1_pay24 a.1) (k1_pay9 x2 k1_pay24 a.1) (k1_pay10 y2 k1_pay24 a.1))
    (Scalar.ofBits .f32 0xBF800000#32))

/-- The trip over the three input blocks of the call. -/
def nmsStep (x1 : Vec F S1x157x128 .i32) (x2 : Vec F S1x4x157x128 .f32) : Fin k1_t1_loop.trips → NmsAcc F → NmsAcc F :=
  nmsTrip (k1_pay18 (View.ld x1 r1_0)) (k1_pay19 (View.ld x2 r1_1)) (k1_pay20 (View.ld x2 r1_2)) (k1_pay21 (View.ld x2 r1_3))
    (k1_pay22 (View.ld x2 r1_4)) (k1_pay23 (View.ld x2 r1_1) (View.ld x2 r1_2) (View.ld x2 r1_3) (View.ld x2 r1_4))

/-- What the loop is entered with. -/
def nmsInit (x0 : Vec F S1x157x128 .f32) : NmsAcc F := (k1_pay17 (View.ld x0 r1_0), k1_pay25, k1_pay26, k1_pay27)

/-- What the loop leaves: the trips applied in order. -/
def nmsFold (x0 : Vec F S1x157x128 .f32) (x1 : Vec F S1x157x128 .i32) (x2 : Vec F S1x4x157x128 .f32) : NmsAcc F :=
  Scf.fold (nmsStep x1 x2) (nmsInit x0)

/-- The printed region returns `nmsTrip`. -/
theorem k1_t1_body_eq (i : grid1.Coords) (arg1 : Memref sig .tc .vmem S1x157x128 .f32) (harg1 : arg1.IsWhole) (arg2 : Memref sig .tc .vmem S1x157x128 .i32) (harg2 : arg2.IsWhole) (arg3 : Memref sig .tc .vmem S1x4x157x128 .f32) (harg3 : arg3.IsWhole) (arg4 : Memref sig .tc .vmem S1x4x128 .f32) (harg4 : arg4.IsWhole) (arg5 : Memref sig .tc .vmem S1x1x128 .f32) (harg5 : arg5.IsWhole) (arg6 : Memref sig .tc .vmem S1x1x128 .i32) (harg6 : arg6.IsWhole)
    (lab : IVec S157x128 32) (x1 y1 x2 y2 area : FVec F S157x128 .f32) (k : Fin k1_t1_loop.trips) (a : NmsAcc F) :
    k1_t1_body i arg1 harg1 arg2 harg2 arg3 harg3 arg4 harg4 arg5 harg5 arg6 harg6 lab x1 y1 x2 y2 area k1_pay24 (iota .tc S1x128 32 [1] iota_S1x128_d1_w32) 0#32 k a
      = .ret (nmsTrip lab x1 y1 x2 y2 area k a) := by
  unfold k1_t1_body
  rw [k1_part1_eq_skeleton, k1_part2_eq_skeleton]
  rfl

/-- The picked boxes block the body leaves. -/
def out1_3 (x0 : Vec F S1x157x128 .f32) (x1 : Vec F S1x157x128 .i32) (x2 : Vec F S1x4x157x128 .f32) : Vec F S1x4x128 .f32 :=
  View.canon [⟨r1_6, k1_pay4 (nmsFold x0 x1 x2).2.2.2⟩]

/-- The one store covers the block. -/
theorem cover1_3 (p0 : Vec F S1x4x128 .f32) (y : S1x4x128.Idx) :
    ∃ pc ∈ ([⟨r1_6, p0⟩] : List (View.Piece (Elt F) S1x4x128 .f32)), y ∈ pc.1.set :=
  View.cover_of_tiled [⟨r1_6, p0⟩] S1x4x128.size (by rfl) y

/-- The picked scores block the body leaves. -/
def out1_4 (x0 : Vec F S1x157x128 .f32) (x1 : Vec F S1x157x128 .i32) (x2 : Vec F S1x4x157x128 .f32) : Vec F S1x1x128 .f32 :=
  View.canon [⟨r1_5, k1_pay2 (nmsFold x0 x1 x2).2.1⟩]

/-- The one store covers the block. -/
theorem cover1_4 (p0 : Vec F S1x1x128 .f32) (y : S1x1x128.Idx) :
    ∃ pc ∈ ([⟨r1_5, p0⟩] : List (View.Piece (Elt F) S1x1x128 .f32)), y ∈ pc.1.set :=
  View.cover_of_tiled [⟨r1_5, p0⟩] S1x1x128.size (by rfl) y

/-- The picked labels block the body leaves. -/
def out1_5 (x0 : Vec F S1x157x128 .f32) (x1 : Vec F S1x157x128 .i32) (x2 : Vec F S1x4x157x128 .f32) : Vec F S1x1x128 .i32 :=
  View.canon [⟨r1_5, k1_pay3 (nmsFold x0 x1 x2).2.2.1⟩]

/-- The one store covers the block. -/
theorem cover1_5 (p0 : Vec F S1x1x128 .i32) (y : S1x1x128.Idx) :
    ∃ pc ∈ ([⟨r1_5, p0⟩] : List (View.Piece (Elt F) S1x1x128 .i32)), y ∈ pc.1.set :=
  View.cover_of_tiled [⟨r1_5, p0⟩] S1x1x128.size (by rfl) y

set_option maxHeartbeats 1000000 in
/-- The body on whole blocks: the loads, the loop as its fold (`k1_t1_body_eq`), the three stores. -/
theorem sound_kernel1 (c : Dev nD) (E : Set ℕ) (i : grid1.Coords) (arg1 : Memref sig .tc .vmem S1x157x128 .f32) (harg1 : arg1.IsWhole) (arg2 : Memref sig .tc .vmem S1x157x128 .i32) (harg2 : arg2.IsWhole) (arg3 : Memref sig .tc .vmem S1x4x157x128 .f32) (harg3 : arg3.IsWhole) (arg4 : Memref sig .tc .vmem S1x4x128 .f32) (harg4 : arg4.IsWhole) (arg5 : Memref sig .tc .vmem S1x1x128 .f32) (harg5 : arg5.IsWhole) (arg6 : Memref sig .tc .vmem S1x1x128 .i32) (harg6 : arg6.IsWhole)
    (x0 : Vec F S1x157x128 .f32) (x1 : Vec F S1x157x128 .i32) (x2 : Vec F S1x4x157x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2) ∗ owns (c : Thread nD τ) arg5 fullShare (out1_4 x0 x1 x2) ∗ owns (c : Thread nD τ) arg6 fullShare (out1_5 x0 x1 x2)) -∗ K ⟨⟩))
      ⊢ wp frame (wpE (defs₀ (F := F)) Variants.none c none) E (cc1__nms_body i arg1 harg1 arg2 harg2 arg3 harg3 arg4 harg4 arg5 harg5 arg6 harg6) K := by
  simp only [cc1__nms_body_eq_skeleton]; unfold cc1__nms_body_skel
  simp only [k1_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  sl_exec
  refine exec_loopForPure (nD := nD) (τ := τ) (sig := sig) (Ix := Unit) (Val := Elt F) (Name := ℕ) (U := UR sig nD τ) (Lvl := ℕ) (defs := defs₀) (𝒱 := Variants.none) (c := (c : Thread nD τ)) (bd := none) (E := E) (l := k1_t1_loop) (hok := k1_t1_ok) (g := nmsStep x1 x2) (r := nmsFold x0 x1 x2) (hg := ?_) (hr := ?_) (h := ?_)
  · intro k a; subst hf1 hf2
    exact k1_t1_body_eq i arg1 harg1 arg2 harg2 arg3 harg3 arg4 harg4 arg5 harg5 arg6 harg6 _ _ _ _ _ _ k a
  · subst hf0; rfl
  generalize hA : nmsFold x0 x1 x2 = A
  iintro ⟨⟨⟨⟨⟨⟨H0, H1⟩, H2⟩, H3⟩, H4⟩, H5⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists _; isplitr
    swap; · iexact H3
    ipureintro
    refine (View.read_writes_eq_canon _ _ _ (cover1_3 _)).trans ?_
    unfold out1_3; rw [hA]
  isplitl [H4]
  · iexists _; isplitr
    swap; · iexact H4
    ipureintro
    refine (View.read_writes_eq_canon _ _ _ (cover1_4 _)).trans ?_
    unfold out1_4; rw [hA]
  iexists _; isplitr
  swap; · iexact H5
  ipureintro
  refine (View.read_writes_eq_canon _ _ _ (cover1_5 _)).trans ?_
  unfold out1_5; rw [hA]

/-- The call's proof data: arrays as found, each input block left alone, each output block at what the body leaves. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
    | ⟨5, _⟩ => out1_5 (iblk1 V c 0 t) (iblk1 V c 1 t) (iblk1 V c 2 t)
  Φ _ := Pipeline.ΦA spec1 c
  q _ := fullShare
  owed _ := 0

/-- The arrays of the proof data are the contents at entry. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]
theorem after1_5 (c : Dev nD) (t : Fin cfg1.N) : (dat1 V c).after 5 t = out1_5 (iblk1 V c 0 t) (iblk1 V c 1 t) (iblk1 V c 2 t) := by dsimp only [dat1]

/-- An input window holds its block at every point. -/
theorem before1_0 (c : Dev nD) (t : Fin cfg1.N) (d) : (dat1 V c).before 0 t d = iblk1 V c 0 t :=
  before1_0_of V (dat1 V c) (A_eq1 V c 0) (after1_0 V c) t d
/-- An input window holds its block at every point. -/
theorem before1_1 (c : Dev nD) (t : Fin cfg1.N) (d) : (dat1 V c).before 1 t d = iblk1 V c 1 t :=
  before1_1_of V (dat1 V c) (A_eq1 V c 1) (after1_1 V c) t d
/-- An input window holds its block at every point. -/
theorem before1_2 (c : Dev nD) (t : Fin cfg1.N) (d) : (dat1 V c).before 2 t d = iblk1 V c 2 t :=
  before1_2_of V (dat1 V c) (A_eq1 V c 2) (after1_2 V c) t d

/-- What the body is entered with at point `t`: the windows' blocks, one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it gives back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any grid point, from its run on whole blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body's table entry at the point's blocks. -/
theorem defs₀_row1 (t : Fin cfg1.N) :
    defs₀ (F := F) .tc cfg1.body (cfg1.bodyArgs t (cfg1.slots t)) = bodyAt1 t := by
  unfold defs₀; rw [Defs.onTc_tc]

/-- The pipeline's obligation on the body. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.IdealRun.lean ====
/- The whole kernel program: first call, host reshapes, second call, host slices. The buffer contents at every
   boundary, and the run from the launch to the last of them. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.IdealStage
public import proofs.«01_k».proof.Proof.IdealNms

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two argument arrays. -/
abbrev argRefs : List (Ref sig .tc) := [main_arg0, main_arg1]

/-- No operation of the stretch allocates. -/
theorem hostOps1_fresh : (hostOps1 : List (HloOp τ sig (Elt F))).Forall fun op => op.fresh = ∅ := by
  simp only [List.Forall]; repeat' constructor
/-- The buffer each operation of the stretch writes. -/
abbrev hostOps1_W : List (Ref sig .tc) := [main_v1, main_v2, main_cst, main_v3, main_v4, main_v5, main_c, main_v6, main_v7, main_v8, main_v9, main_cst_0, main_v10, main_v11, main_v12]
theorem hostOps1_writes : (hostOps1 : List (HloOp τ sig (Elt F))).Forall fun op => op.writes ⊆ (hostOps1_W.map (Proc.devRef (τ := τ) .tc)).toFinset :=
  StableHlo.forall_writes_sub_of_map rfl
/-- No argument is written by the stretch. -/
theorem hostOps1_args : ∀ a ∈ argRefs, a ∉ hostOps1_W := ListAll.forall_mem_of_all_decide (by decide +kernel)

/-- No operation of the stretch allocates. -/
theorem hostOps2_fresh : (hostOps2 : List (HloOp τ sig (Elt F))).Forall fun op => op.fresh = ∅ := by
  simp only [List.Forall]; repeat' constructor
/-- The buffer each operation of the stretch writes. -/
abbrev hostOps2_W : List (Ref sig .tc) := [main_v14, main_v15, main_v16, main_v17, main_v18, main_v19]
theorem hostOps2_writes : (hostOps2 : List (HloOp τ sig (Elt F))).Forall fun op => op.writes ⊆ (hostOps2_W.map (Proc.devRef (τ := τ) .tc)).toFinset :=
  StableHlo.forall_writes_sub_of_map rfl
/-- No argument is written by the stretch. -/
theorem hostOps2_args : ∀ a ∈ argRefs, a ∉ hostOps2_W := ListAll.forall_mem_of_all_decide (by decide +kernel)

/-- Contents at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
/-- Contents after the first call: its arrays at what its write-backs leave, the rest as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer that is no output array of the call keeps its contents across it. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- An argument among the call's arrays is an input. -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
/-- Each array of the call at its exit. -/
theorem hF0 (c : Dev nD) (w : Fin cfg0.W) : (dat0 (V0 m ρ) c).arrAt w cfg0.N = V1 m ρ c (Pipeline.arrRef spec0 w) :=
  (W1_arr m ρ c w).symm
/-- Every other buffer at the call's exit. -/
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- Contents after the reshapes between the calls. -/
abbrev W2 : Dev nD → Valuation τ sig (Elt F) := fun c => StableHlo.after hostOps1 (W1 m ρ c)
/-- A buffer the stretch does not write keeps its contents. -/
theorem W2_of (c : Dev nD) (r : Ref sig .tc) (h : r ∉ hostOps1_W) : W2 m ρ c (Proc.devRef .tc r) = W1 m ρ c (Proc.devRef .tc r) :=
  StableHlo.after_of_writes_sub hostOps1 _ hostOps1_writes h
theorem W2_args (c : Dev nD) : ∀ a ∈ argRefs, W2 m ρ c (Proc.devRef .tc a) = m ((c : Thread nD τ).loc a) :=
  fun a ha => (W2_of m ρ c a (hostOps1_args a ha)).trans (W1_args m ρ c a ha)
abbrev V2 : (c : Dev nD) → (b : Ref sig .tc) → Buf (Elt F) ((c : Thread nD τ).loc b) := fun c b => W2 m ρ c b
/-- Contents after the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is no output array of the call keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- An argument among the call's arrays is an input. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
abbrev V3 : (c : Dev nD) → (b : Ref sig .tc) → Buf (Elt F) ((c : Thread nD τ).loc b) := fun c b => W3 m ρ c b
/-- Each array of the call at its exit. -/
theorem hF1 (c : Dev nD) (w : Fin cfg1.W) : (dat1 (V2 m ρ) c).arrAt w cfg1.N = V3 m ρ c (Pipeline.arrRef spec1 w) :=
  (W3_arr m ρ c w).symm
/-- Every other buffer at the call's exit. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- Contents after the last slices. -/
abbrev W4 : Dev nD → Valuation τ sig (Elt F) := fun c => StableHlo.after hostOps2 (W3 m ρ c)
/-- A buffer the stretch does not write keeps its contents. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-- No call reads a prefetched table. -/
abbrev adm : (p : Fin 2) → (pcfgs (F := F) p).Adm := fun p => (cfgs p).toPCfg_adm
/-- Both calls' proof data, each at its entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
/-- No core owes another anything. -/
abbrev L : GSem nD τ sig → Finset Unit := fun _ => ∅
abbrev lv : GSem nD τ sig → Unit → ℕ := fun _ _ => 0
/-- What passes through every segment: the generator register and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped buffer is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary. -/
abbrev Tₙ (c : Dev nD) : sProp 𝕄 := iprop(StableHlo.held (c : Thread nD τ) (Pipeline.ucRefs τ sig) (W4 m ρ c) ∗ ∃ r, prngReg c r)

set_option backward.isDefEq.respectTransparency.types false in
/-- The first call as a segment, from `W0` to `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second call as a segment, from `W2` to `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's four segments. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
/-- The program is the run of its segments. -/
theorem main_run (c : Dev nD) : main (F := F) c = Pipeline.Seg.run (segs m ρ) := (main_chain c).trans (by chain_rfl)

/-- There is no unscoped semaphore. -/
theorem no_unscoped : ∀ sm : SemLoc sig, sm.isScoped .tc = true := by decide

-- the launch's implicit arguments are found by unifying its conclusion with this one
set_option backward.isDefEq.respectTransparency.types false in
/-- The program's run: from any memory with zero counters every weakly fair execution ends, with every unscoped buffer at the
    last boundary's contents and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

/-- The same read at the results and the arguments: each result at the last boundary's contents, the arguments as launched. -/
theorem run_results : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_v17) = W4 m ρ c (Proc.devRef .tc main_v17)
      ∧ r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h.1 c _ (mem_uc main_v15 (by decide)), h.1 c _ (mem_uc main_v17 (by decide)), h.1 c _ (mem_uc main_v19 (by decide)),
     (h.1 c _ (mem_uc main_arg0 (by decide))).trans (W4_args m ρ c main_arg0 (by decide)),
     (h.1 c _ (mem_uc main_arg1 (by decide))).trans (W4_args m ρ c main_arg1 (by decide))⟩) (run_all m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c _ (mem_uc main_arg0 (by decide))).trans (W4_args m ρ c main_arg0 (by decide)),
     (h.1 c _ (mem_uc main_arg1 (by decide))).trans (W4_args m ρ c main_arg1 (by decide))⟩, h.2⟩) (run_all m ρ)

end Cert.KernelIdeal.Gen

end
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 2000

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! # The reference as stretches of host operations around one counted loop -/

/-- Before the loop: the greatest class score of every box, and its comparison with the threshold. -/
abbrev preOps0 : List (HloOp τ sig (Elt F)) :=
  [ StableHlo.nullary main_cst (constant S_ .f32 0xFF800000#32),
    StableHlo.binary main_arg1 main_cst main_v0 ((fun x v => Host.reduce FloatOps.maximumf x v reducesTo_S8x20000x80_S8x20000_d2 h_S_) : (⟨S8x20000x80, .f32⟩ : BufTy).Contents (Elt F) → (⟨S_, .f32⟩ : BufTy).Contents (Elt F) → (⟨S8x20000, .f32⟩ : BufTy).Contents (Elt F)),
    StableHlo.nullary main_cst_0 (constant S_ .f32 0x3C23D70A#32),
    StableHlo.unary main_cst_0 main_v1 (broadcastInDim S8x20000 ![] bcast_S_S8x20000 : (⟨S_, .f32⟩ : BufTy).Contents (Elt F) → (⟨S8x20000, .f32⟩ : BufTy).Contents (Elt F)),
    StableHlo.binary main_v0 main_v1 main_v2 (cmpf .ogt : (⟨S8x20000, .f32⟩ : BufTy).Contents (Elt F) → (⟨S8x20000, .f32⟩ : BufTy).Contents (Elt F) → (⟨S8x20000, .i1⟩ : BufTy).Contents (Elt F)),
    StableHlo.nullary main_cst_1 (constant S_ .f32 0xF149F2CA#32) ]
/-- It touches the device's own arrays only. -/
theorem preOps0_sub : (preOps0 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..⟩
/-- Before the loop: boxes at or below the threshold get the low score. -/
abbrev preOps1 : List (HloOp τ sig (Elt F)) :=
  [ StableHlo.TRef.unary (.of main_cst_1 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S20000, .f32⟩) (broadcastInDim S20000 ![] bcast_S_S20000),
    StableHlo.TRef.unary (.of main_call0_v1 : StableHlo.TRef sig ⟨S20000, .f32⟩) (.of main_call0_v2 : StableHlo.TRef sig ⟨S8x20000, .f32⟩) (broadcastInDim S8x20000 ![1] bcast_S20000_S8x20000_1),
    StableHlo.TRef.ternary (.of main_v2 : StableHlo.TRef sig ⟨S8x20000, .i1⟩) (.of main_v0 : StableHlo.TRef sig ⟨S8x20000, .f32⟩) (.of main_call0_v2 : StableHlo.TRef sig ⟨S8x20000, .f32⟩) (.of main_v3 : StableHlo.TRef sig ⟨S8x20000, .f32⟩) select ]
/-- It touches the device's own arrays only. -/
theorem preOps1_sub : (preOps1 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- Before the loop: the carried buffers at their first contents. -/
abbrev preOps2 : List (HloOp τ sig (Elt F)) :=
  [ StableHlo.nullary main_c (constantI S_ 32 0#32),
    StableHlo.unary main_c main_v4 (broadcastInDim S100x8 ![] bcast_S_S100x8 : (⟨S_, .i32⟩ : BufTy).Contents (Elt F) → (⟨S100x8, .i32⟩ : BufTy).Contents (Elt F)),
    StableHlo.nullary main_c_2 (constantI S_ 1 0#1),
    StableHlo.unary main_c_2 main_v5 (broadcastInDim S100x8 ![] bcast_S_S100x8 : (⟨S_, .i1⟩ : BufTy).Contents (Elt F) → (⟨S100x8, .i1⟩ : BufTy).Contents (Elt F)),
    StableHlo.nullary main_c_3 (constantI S_ 32 0#32),
    StableHlo.unary main_arg0 main_v6_0 id,
    StableHlo.unary main_c_3 main_v6_1 id,
    StableHlo.unary main_v3 main_v6_2 id,
    StableHlo.unary main_v4 main_v6_3 id,
    StableHlo.unary main_v5 main_v6_4 id ]
/-- It touches the device's own arrays only. -/
theorem preOps2_sub : (preOps2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- After the loop: the class of every box, the first of its greatest scores. -/
abbrev postOps0 : List (HloOp τ sig (Elt F)) :=
  [ StableHlo.TRef.nullary (.of main_call8_v0 : StableHlo.TRef sig ⟨S8x20000x80, .i32⟩) (iotaInDim S8x20000x80 32 2),
    StableHlo.TRef.nullary (.of main_call8_cst : StableHlo.TRef sig ⟨S_, .f32⟩) (constant S_ .f32 0xFF800000#32),
    StableHlo.TRef.nullary (.of main_call8_c : StableHlo.TRef sig ⟨S_, .i32⟩) (constantI S_ 32 0#32),
    StableHlo.TRef.quaternary (.of main_arg1 : StableHlo.TRef sig ⟨S8x20000x80, .f32⟩) (.of main_call8_v0 : StableHlo.TRef sig ⟨S8x20000x80, .i32⟩) (.of main_call8_cst : StableHlo.TRef sig ⟨S_, .f32⟩) (.of main_call8_c : StableHlo.TRef sig ⟨S_, .i32⟩) (.of main_call8_v1_0 : StableHlo.TRef sig ⟨S8x20000, .f32⟩) (fun x y u v j => (Host.argReduce reducer_argmax_f32_i32 x y u v reducesTo_S8x20000x80_S8x20000_d2 h_S_ j).1),
    StableHlo.TRef.quaternary (.of main_arg1 : StableHlo.TRef sig ⟨S8x20000x80, .f32⟩) (.of main_call8_v0 : StableHlo.TRef sig ⟨S8x20000x80, .i32⟩) (.of main_call8_cst : StableHlo.TRef sig ⟨S_, .f32⟩) (.of main_call8_c : StableHlo.TRef sig ⟨S_, .i32⟩) (.of main_v7 : StableHlo.TRef sig ⟨S8x20000, .i32⟩) (fun x y u v j => (Host.argReduce reducer_argmax_f32_i32 x y u v reducesTo_S8x20000x80_S8x20000_d2 h_S_ j).2) ]
/-- It touches the device's own arrays only. -/
theorem postOps0_sub : (postOps0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- After the loop: labels, scores and boxes of the selected boxes. -/
abbrev postOps1 : List (HloOp τ sig (Elt F)) :=
  ( StableHlo.nullary main_c_4 (constantI S_ 32 0#32)
  :: StableHlo.unary main_c_4 main_v8 (broadcastInDim S100x8 ![] bcast_S_S100x8 : (⟨S_, .i32⟩ : BufTy).Contents (Elt F) → (⟨S100x8, .i32⟩ : BufTy).Contents (Elt F))
  :: StableHlo.binary main_v6_3 main_v8 main_v9 (cmpi .slt : (⟨S100x8, .i32⟩ : BufTy).Contents (Elt F) → (⟨S100x8, .i32⟩ : BufTy).Contents (Elt F) → (⟨S100x8, .i1⟩ : BufTy).Contents (Elt F))
  :: StableHlo.nullary main_c_5 (constantI S_ 32 20000#32)
  :: StableHlo.unary main_c_5 main_v10 (broadcastInDim S100x8 ![] bcast_S_S100x8 : (⟨S_, .i32⟩ : BufTy).Contents (Elt F) → (⟨S100x8, .i32⟩ : BufTy).Contents (Elt F))
  :: StableHlo.binary main_v6_3 main_v10 main_v11 (addi : (⟨S100x8, .i32⟩ : BufTy).Contents (Elt F) → (⟨S100x8, .i32⟩ : BufTy).Contents (Elt F) → (⟨S100x8, .i32⟩ : BufTy).Contents (Elt F))
  :: StableHlo.ternary main_v9 main_v11 main_v6_3 main_v12 (select : (⟨S100x8, .i1⟩ : BufTy).Contents (Elt F) → (⟨S100x8, .i32⟩ : BufTy).Contents (Elt F) → (⟨S100x8, .i32⟩ : BufTy).Contents (Elt F) → (⟨S100x8, .i32⟩ : BufTy).Contents (Elt F))
  :: StableHlo.unary main_v12 main_v13 ((transpose S8x100 [1, 0] · transposes_S100x8_S8x100_1_0) : (⟨S100x8, .i32⟩ : BufTy).Contents (Elt F) → (⟨S8x100, .i32⟩ : BufTy).Contents (Elt F))
  :: StableHlo.unary main_v13 main_v14 (broadcastInDim S8x100x1 ![0, 1] bcast_S8x100_S8x100x1_0_1 : (⟨S8x100, .i32⟩ : BufTy).Contents (Elt F) → (⟨S8x100x1, .i32⟩ : BufTy).Contents (Elt F))
  :: StableHlo.binary main_v7 main_v14 main_v15 ((fun x i => Host.gather gather_S8x20000_S8x100x1_S8x100_n_1_0_0_1_2_11 x i) : (⟨S8x20000, .i32⟩ : BufTy).Contents (Elt F) → (⟨S8x100x1, .i32⟩ : BufTy).Contents (Elt F) → (⟨S8x100, .i32⟩ : BufTy).Contents (Elt F))
  :: StableHlo.nullary main_c_6 (constantI S_ 32 0#32)
  :: StableHlo.unary main_c_6 main_v16 (broadcastInDim S100x8 ![] bcast_S_S100x8 : (⟨S_, .i32⟩ : BufTy).Contents (Elt F) → (⟨S100x8, .i32⟩ : BufTy).Contents (Elt F))
  :: StableHlo.binary main_v6_3 main_v16 main_v17 (cmpi .slt : (⟨S100x8, .i32⟩ : BufTy).Contents (Elt F) → (⟨S100x8, .i32⟩ : BufTy).Contents (Elt F) → (⟨S100x8, .i1⟩ : BufTy).Contents (Elt F))
  :: StableHlo.nullary main_c_7 (constantI S_ 32 20000#32)
  :: StableHlo.unary main_c_7 main_v18 (broadcastInDim S100x8 ![] bcast_S_S100x8 : (⟨S_, .i32⟩ : BufTy).Contents (Elt F) → (⟨S100x8, .i32⟩ : BufTy).Contents (Elt F))
  :: StableHlo.binary main_v6_3 main_v18 main_v19 (addi : (⟨S100x8, .i32⟩ : BufTy).Contents (Elt F) → (⟨S100x8, .i32⟩ : BufTy).Contents (Elt F) → (⟨S100x8, .i32⟩ : BufTy).Contents (Elt F))
  :: StableHlo.ternary main_v17 main_v19 main_v6_3 main_v20 (select : (⟨S100x8, .i1⟩ : BufTy).Contents (Elt F) → (⟨S100x8, .i32⟩ : BufTy).Contents (Elt F) → (⟨S100x8, .i32⟩ : BufTy).Contents (Elt F) → (⟨S100x8, .i32⟩ : BufTy).Contents (Elt F))
  :: StableHlo.nullary main_c_8 (constantI S_ 32 0#32)
  :: StableHlo.unary main_c_8 main_v21 (broadcastInDim S8x100 ![] bcast_S_S8x100 : (⟨S_, .i32⟩ : BufTy).Contents (Elt F) → (⟨S8x100, .i32⟩ : BufTy).Contents (Elt F))
  :: StableHlo.binary main_v15 main_v21 main_v22 (cmpi .slt : (⟨S8x100, .i32⟩ : BufTy).Contents (Elt F) → (⟨S8x100, .i32⟩ : BufTy).Contents (Elt F) → (⟨S8x100, .i1⟩ : BufTy).Contents (Elt F))
  :: StableHlo.nullary main_c_9 (constantI S_ 32 80#32)
  :: StableHlo.unary main_c_9 main_v23 (broadcastInDim S8x100 ![] bcast_S_S8x100 : (⟨S_, .i32⟩ : BufTy).Contents (Elt F) → (⟨S8x100, .i32⟩ : BufTy).Contents (Elt F))
  :: StableHlo.binary main_v15 main_v23 main_v24 (addi : (⟨S8x100, .i32⟩ : BufTy).Contents (Elt F) → (⟨S8x100, .i32⟩ : BufTy).Contents (Elt F) → (⟨S8x100, .i32⟩ : BufTy).Contents (Elt F))
  :: StableHlo.ternary main_v22 main_v24 main_v15 main_v25 (select : (⟨S8x100, .i1⟩ : BufTy).Contents (Elt F) → (⟨S8x100, .i32⟩ : BufTy).Contents (Elt F) → (⟨S8x100, .i32⟩ : BufTy).Contents (Elt F) → (⟨S8x100, .i32⟩ : BufTy).Contents (Elt F))
  :: StableHlo.unary main_v20 main_v26 ((transpose S8x100 [1, 0] · transposes_S100x8_S8x100_1_0) : (⟨S100x8, .i32⟩ : BufTy).Contents (Elt F) → (⟨S8x100, .i32⟩ : BufTy).Contents (Elt F))
  :: StableHlo.unary main_v26 main_v27 (broadcastInDim S8x100x1 ![0, 1] bcast_S8x100_S8x100x1_0_1 : (⟨S8x100, .i32⟩ : BufTy).Contents (Elt F) → (⟨S8x100x1, .i32⟩ : BufTy).Contents (Elt F))
  :: StableHlo.unary main_v25 main_v28 (broadcastInDim S8x100x1 ![0, 1] bcast_S8x100_S8x100x1_0_1 : (⟨S8x100, .i32⟩ : BufTy).Contents (Elt F) → (⟨S8x100x1, .i32⟩ : BufTy).Contents (Elt F))
  :: StableHlo.binary main_v27 main_v28 main_v29 ((fun a b => concatenate S8x100x2 2 [⟨S8x100x1, a⟩, ⟨S8x100x1, b⟩] concatenates_S8x100x1_S8x100x1_S8x100x2_d2) : (⟨S8x100x1, .i32⟩ : BufTy).Contents (Elt F) → (⟨S8x100x1, .i32⟩ : BufTy).Contents (Elt F) → (⟨S8x100x2, .i32⟩ : BufTy).Contents (Elt F))
  :: StableHlo.binary main_arg1 main_v29 main_v30 ((fun x i => Host.gather gather_S8x20000x80_S8x100x2_S8x100_n_12_0_0_12_2_111 x i) : (⟨S8x20000x80, .f32⟩ : BufTy).Contents (Elt F) → (⟨S8x100x2, .i32⟩ : BufTy).Contents (Elt F) → (⟨S8x100, .f32⟩ : BufTy).Contents (Elt F))
  :: StableHlo.nullary main_c_10 (constantI S_ 32 0#32)
  :: StableHlo.unary main_c_10 main_v31 (broadcastInDim S100x8 ![] bcast_S_S100x8 : (⟨S_, .i32⟩ : BufTy).Contents (Elt F) → (⟨S100x8, .i32⟩ : BufTy).Contents (Elt F))
  :: StableHlo.binary main_v6_3 main_v31 main_v32 (cmpi .slt : (⟨S100x8, .i32⟩ : BufTy).Contents (Elt F) → (⟨S100x8, .i32⟩ : BufTy).Contents (Elt F) → (⟨S100x8, .i1⟩ : BufTy).Contents (Elt F))
  :: StableHlo.nullary main_c_11 (constantI S_ 32 20000#32)
  :: StableHlo.unary main_c_11 main_v33 (broadcastInDim S100x8 ![] bcast_S_S100x8 : (⟨S_, .i32⟩ : BufTy).Contents (Elt F) → (⟨S100x8, .i32⟩ : BufTy).Contents (Elt F))
  :: StableHlo.binary main_v6_3 main_v33 main_v34 (addi : (⟨S100x8, .i32⟩ : BufTy).Contents (Elt F) → (⟨S100x8, .i32⟩ : BufTy).Contents (Elt F) → (⟨S100x8, .i32⟩ : BufTy).Contents (Elt F))
  :: StableHlo.ternary main_v32 main_v34 main_v6_3 main_v35 (select : (⟨S100x8, .i1⟩ : BufTy).Contents (Elt F) → (⟨S100x8, .i32⟩ : BufTy).Contents (Elt F) → (⟨S100x8, .i32⟩ : BufTy).Contents (Elt F) → (⟨S100x8, .i32⟩ : BufTy).Contents (Elt F))
  :: StableHlo.unary main_v35 main_v36 ((transpose S8x100 [1, 0] · transposes_S100x8_S8x100_1_0) : (⟨S100x8, .i32⟩ : BufTy).Contents (Elt F) → (⟨S8x100, .i32⟩ : BufTy).Contents (Elt F))
  :: StableHlo.unary main_v36 main_v37 (broadcastInDim S8x100x1 ![0, 1] bcast_S8x100_S8x100x1_0_1 : (⟨S8x100, .i32⟩ : BufTy).Contents (Elt F) → (⟨S8x100x1, .i32⟩ : BufTy).Contents (Elt F))
  :: StableHlo.binary main_arg0 main_v37 main_v38 ((fun x i => Host.gather gather_S8x20000x4_S8x100x1_S8x100x4_2_1_0_0_1_2_114 x i) : (⟨S8x20000x4, .f32⟩ : BufTy).Contents (Elt F) → (⟨S8x100x1, .i32⟩ : BufTy).Contents (Elt F) → (⟨S8x100x4, .f32⟩ : BufTy).Contents (Elt F))
  :: StableHlo.unary main_v6_4 main_v39 ((transpose S8x100 [1, 0] · transposes_S100x8_S8x100_1_0) : (⟨S100x8, .i1⟩ : BufTy).Contents (Elt F) → (⟨S8x100, .i1⟩ : BufTy).Contents (Elt F))
  :: StableHlo.unary main_v39 main_v40 (broadcastInDim S8x100x1 ![0, 1] bcast_S8x100_S8x100x1_0_1 : (⟨S8x100, .i1⟩ : BufTy).Contents (Elt F) → (⟨S8x100x1, .i1⟩ : BufTy).Contents (Elt F))
  :: [] )
/-- It touches the device's own arrays only. -/
theorem postOps1_sub : (postOps1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.unary_bufs_sub .., StableHlo.unary_bufs_sub ..⟩
/-- After the loop: the filler of the boxes. -/
abbrev postOps2 : List (HloOp τ sig (Elt F)) :=
  [ StableHlo.nullary main_cst_12 (constant S_ .f32 0xBF800000#32) ]
/-- It touches the device's own arrays only. -/
theorem postOps2_sub : (postOps2 : List (HloOp τ sig (Elt F))).Forall fun op => op.bufs ⊆ StableHlo.tcRefs τ sig :=
  StableHlo.nullary_bufs_sub ..
/-- After the loop: boxes of the rows that were not kept become the filler. -/
abbrev postOps3 : List (HloOp τ sig (Elt F)) :=
  [ StableHlo.TRef.unary (.of main_cst_12 : StableHlo.TRef sig ⟨S_, .f32⟩) (.of main_call9_v0 : StableHlo.TRef sig ⟨S_, .f32⟩) id,
    StableHlo.TRef.unary (.of main_v40 : StableHlo.TRef sig ⟨S8x100x1, .i1⟩) (.of main_call9_v1 : StableHlo.TRef sig ⟨S8x100x4, .i1⟩) (broadcastInDim S8x100x4 ![0, 1, 2] bcast_S8x100x1_S8x100x4_0_1_2),
    StableHlo.TRef.unary (.of main_call9_v0 : StableHlo.TRef sig ⟨S_, .f32⟩) (.of main_call9_v2 : StableHlo.TRef sig ⟨S100x4, .f32⟩) (broadcastInDim S100x4 ![] bcast_S_S100x4),
    StableHlo.TRef.unary (.of main_call9_v2 : StableHlo.TRef sig ⟨S100x4, .f32⟩) (.of main_call9_v3 : StableHlo.TRef sig ⟨S8x100x4, .f32⟩) (broadcastInDim S8x100x4 ![1, 2] bcast_S100x4_S8x100x4_1_2),
    StableHlo.TRef.ternary (.of main_call9_v1 : StableHlo.TRef sig ⟨S8x100x4, .i1⟩) (.of main_v38 : StableHlo.TRef sig ⟨S8x100x4, .f32⟩) (.of main_call9_v3 : StableHlo.TRef sig ⟨S8x100x4, .f32⟩) (.of main_v41 : StableHlo.TRef sig ⟨S8x100x4, .f32⟩) select ]
/-- It touches the device's own arrays only. -/
theorem postOps3_sub : (postOps3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- After the loop: the filler of the scores. -/
abbrev postOps4 : List (HloOp τ sig (Elt F)) :=
  [ StableHlo.nullary main_cst_13 (constant S_ .f32 0xBF800000#32) ]
/-- It touches the device's own arrays only. -/
theorem postOps4_sub : (postOps4 : List (HloOp τ sig (Elt F))).Forall fun op => op.bufs ⊆ StableHlo.tcRefs τ sig :=
  StableHlo.nullary_bufs_sub ..
/-- After the loop: scores of the rows that were not kept become the filler. -/
abbrev postOps5 : List (HloOp τ sig (Elt F)) :=
  [ StableHlo.TRef.unary (.of main_cst_13 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S100, .f32⟩) (broadcastInDim S100 ![] bcast_S_S100),
    StableHlo.TRef.unary (.of main_v6_4 : StableHlo.TRef sig ⟨S100x8, .i1⟩) (.of main_call10_v2 : StableHlo.TRef sig ⟨S8x100, .i1⟩) (transpose S8x100 [1, 0] · transposes_S100x8_S8x100_1_0),
    StableHlo.TRef.unary (.of main_call10_v1 : StableHlo.TRef sig ⟨S100, .f32⟩) (.of main_call10_v3 : StableHlo.TRef sig ⟨S8x100, .f32⟩) (broadcastInDim S8x100 ![1] bcast_S100_S8x100_1),
    StableHlo.TRef.ternary (.of main_call10_v2 : StableHlo.TRef sig ⟨S8x100, .i1⟩) (.of main_v30 : StableHlo.TRef sig ⟨S8x100, .f32⟩) (.of main_call10_v3 : StableHlo.TRef sig ⟨S8x100, .f32⟩) (.of main_v42 : StableHlo.TRef sig ⟨S8x100, .f32⟩) select ]
/-- It touches the device's own arrays only. -/
theorem postOps5_sub : (postOps5 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- After the loop: the filler of the labels. -/
abbrev postOps6 : List (HloOp τ sig (Elt F)) :=
  [ StableHlo.nullary main_c_14 (constantI S_ 32 4294967295#32) ]
/-- It touches the device's own arrays only. -/
theorem postOps6_sub : (postOps6 : List (HloOp τ sig (Elt F))).Forall fun op => op.bufs ⊆ StableHlo.tcRefs τ sig :=
  StableHlo.nullary_bufs_sub ..
/-- After the loop: labels of the rows that were not kept become the filler. -/
abbrev postOps7 : List (HloOp τ sig (Elt F)) :=
  [ StableHlo.TRef.unary (.of main_c_14 : StableHlo.TRef sig ⟨S_, .i32⟩) (.of main_call11_v0 : StableHlo.TRef sig ⟨S_, .i32⟩) id,
    StableHlo.TRef.unary (.of main_call11_v0 : StableHlo.TRef sig ⟨S_, .i32⟩) (.of main_call11_v1 : StableHlo.TRef sig ⟨S100, .i32⟩) (broadcastInDim S100 ![] bcast_S_S100),
    StableHlo.TRef.unary (.of main_v6_4 : StableHlo.TRef sig ⟨S100x8, .i1⟩) (.of main_call11_v2 : StableHlo.TRef sig ⟨S8x100, .i1⟩) (transpose S8x100 [1, 0] · transposes_S100x8_S8x100_1_0),
    StableHlo.TRef.unary (.of main_call11_v1 : StableHlo.TRef sig ⟨S100, .i32⟩) (.of main_call11_v3 : StableHlo.TRef sig ⟨S8x100, .i32⟩) (broadcastInDim S8x100 ![1] bcast_S100_S8x100_1),
    StableHlo.TRef.ternary (.of main_call11_v2 : StableHlo.TRef sig ⟨S8x100, .i1⟩) (.of main_v15 : StableHlo.TRef sig ⟨S8x100, .i32⟩) (.of main_call11_v3 : StableHlo.TRef sig ⟨S8x100, .i32⟩) (.of main_v43 : StableHlo.TRef sig ⟨S8x100, .i32⟩) select ]
/-- It touches the device's own arrays only. -/
theorem postOps7_sub : (postOps7 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
/-- One trip: the box of the greatest score left, the first of them. -/
abbrev tripOps0 : List (HloOp τ sig (Elt F)) :=
  [ StableHlo.TRef.nullary (.of main_while0b_call1_v0 : StableHlo.TRef sig ⟨S8x20000, .i32⟩) (iotaInDim S8x20000 32 1),
    StableHlo.TRef.nullary (.of main_while0b_call1_cst : StableHlo.TRef sig ⟨S_, .f32⟩) (constant S_ .f32 0xFF800000#32),
    StableHlo.TRef.nullary (.of main_while0b_call1_c : StableHlo.TRef sig ⟨S_, .i32⟩) (constantI S_ 32 0#32),
    StableHlo.TRef.quaternary (.of main_v6_2 : StableHlo.TRef sig ⟨S8x20000, .f32⟩) (.of main_while0b_call1_v0 : StableHlo.TRef sig ⟨S8x20000, .i32⟩) (.of main_while0b_call1_cst : StableHlo.TRef sig ⟨S_, .f32⟩) (.of main_while0b_call1_c : StableHlo.TRef sig ⟨S_, .i32⟩) (.of main_while0b_call1_v1_0 : StableHlo.TRef sig ⟨S8, .f32⟩) (fun x y u v j => (Host.argReduce reducer_argmax_f32_i32 x y u v reducesTo_S8x20000_S8_d1 h_S_ j).1),
    StableHlo.TRef.quaternary (.of main_v6_2 : StableHlo.TRef sig ⟨S8x20000, .f32⟩) (.of main_while0b_call1_v0 : StableHlo.TRef sig ⟨S8x20000, .i32⟩) (.of main_while0b_call1_cst : StableHlo.TRef sig ⟨S_, .f32⟩) (.of main_while0b_call1_c : StableHlo.TRef sig ⟨S_, .i32⟩) (.of main_while0b_v44 : StableHlo.TRef sig ⟨S8, .i32⟩) (fun x y u v j => (Host.argReduce reducer_argmax_f32_i32 x y u v reducesTo_S8x20000_S8_d1 h_S_ j).2) ]
/-- It touches the device's own arrays only. -/
theorem tripOps0_sub : (tripOps0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- One trip: its score. -/
abbrev tripOps1 : List (HloOp τ sig (Elt F)) :=
  [ StableHlo.TRef.unary (.of main_while0b_v44 : StableHlo.TRef sig ⟨S8, .i32⟩) (.of main_while0b_call2_v0 : StableHlo.TRef sig ⟨S8x1, .i32⟩) (broadcastInDim S8x1 ![0] bcast_S8_S8x1_0),
    StableHlo.TRef.binary (.of main_v6_2 : StableHlo.TRef sig ⟨S8x20000, .f32⟩) (.of main_while0b_call2_v0 : StableHlo.TRef sig ⟨S8x1, .i32⟩) (.of main_while0b_v45 : StableHlo.TRef sig ⟨S8, .f32⟩) (fun x i => Host.gather gather_S8x20000_S8x1_S8_n_1_0_0_1_1_11 x i) ]
/-- It touches the device's own arrays only. -/
theorem tripOps1_sub : (tripOps1 : List (HloOp τ sig (Elt F))).Forall fun op => op.bufs ⊆ StableHlo.tcRefs τ sig :=
  ⟨StableHlo.unary_bufs_sub .., StableHlo.binary_bufs_sub ..⟩
/-- One trip: whether that score is still above the bound of a live box. -/
abbrev tripOps2 : List (HloOp τ sig (Elt F)) :=
  [ StableHlo.nullary main_while0b_cst_19 (constant S_ .f32 0xF0C9F2CA#32),
    StableHlo.unary main_while0b_cst_19 main_while0b_v46 (broadcastInDim S8 ![] bcast_S_S8 : (⟨S_, .f32⟩ : BufTy).Contents (Elt F) → (⟨S8, .f32⟩ : BufTy).Contents (Elt F)),
    StableHlo.binary main_while0b_v45 main_while0b_v46 main_while0b_v47 (cmpf .ogt : (⟨S8, .f32⟩ : BufTy).Contents (Elt F) → (⟨S8, .f32⟩ : BufTy).Contents (Elt F) → (⟨S8, .i1⟩ : BufTy).Contents (Elt F)) ]
/-- It touches the device's own arrays only. -/
theorem tripOps2_sub : (tripOps2 : List (HloOp τ sig (Elt F))).Forall fun op => op.bufs ⊆ StableHlo.tcRefs τ sig :=
  ⟨StableHlo.nullary_bufs_sub .., StableHlo.unary_bufs_sub .., StableHlo.binary_bufs_sub ..⟩
/-- One trip: its corners. -/
abbrev tripOps3 : List (HloOp τ sig (Elt F)) :=
  [ StableHlo.TRef.unary (.of main_while0b_v44 : StableHlo.TRef sig ⟨S8, .i32⟩) (.of main_while0b_call3_v0 : StableHlo.TRef sig ⟨S8x1, .i32⟩) (broadcastInDim S8x1 ![0] bcast_S8_S8x1_0),
    StableHlo.TRef.binary (.of main_v6_0 : StableHlo.TRef sig ⟨S8x20000x4, .f32⟩) (.of main_while0b_call3_v0 : StableHlo.TRef sig ⟨S8x1, .i32⟩) (.of main_while0b_v48 : StableHlo.TRef sig ⟨S8x4, .f32⟩) (fun x i => Host.gather gather_S8x20000x4_S8x1_S8x4_1_1_0_0_1_1_114 x i) ]
/-- It touches the device's own arrays only. -/
theorem tripOps3_sub : (tripOps3 : List (HloOp τ sig (Elt F))).Forall fun op => op.bufs ⊆ StableHlo.tcRefs τ sig :=
  ⟨StableHlo.unary_bufs_sub .., StableHlo.binary_bufs_sub ..⟩
/-- One trip: which boxes overlap it by more than a half. -/
abbrev tripOps4 : List (HloOp τ sig (Elt F)) :=
  ( StableHlo.unary main_while0b_v48 main_while0b_v49 ((extractStridedSlice S8x2 ![0, 0] · slices_S8x4_S8x2_0_0) : (⟨S8x4, .f32⟩ : BufTy).Contents (Elt F) → (⟨S8x2, .f32⟩ : BufTy).Contents (Elt F))
  :: StableHlo.unary main_v6_0 main_while0b_v50 ((extractStridedSlice S8x20000x2 ![0, 0, 0] · slices_S8x20000x4_S8x20000x2_0_0_0) : (⟨S8x20000x4, .f32⟩ : BufTy).Contents (Elt F) → (⟨S8x20000x2, .f32⟩ : BufTy).Contents (Elt F))
  :: StableHlo.unary main_while0b_v49 main_while0b_v51 (broadcastInDim S8x1x2 ![0, 2] bcast_S8x2_S8x1x2_0_2 : (⟨S8x2, .f32⟩ : BufTy).Contents (Elt F) → (⟨S8x1x2, .f32⟩ : BufTy).Contents (Elt F))
  :: StableHlo.unary main_while0b_v51 main_while0b_v52 (broadcastInDim S8x20000x2 ![0, 1, 2] bcast_S8x1x2_S8x20000x2_0_1_2 : (⟨S8x1x2, .f32⟩ : BufTy).Contents (Elt F) → (⟨S8x20000x2, .f32⟩ : BufTy).Contents (Elt F))
  :: StableHlo.binary main_while0b_v52 main_while0b_v50 main_while0b_v53 (maximumf : (⟨S8x20000x2, .f32⟩ : BufTy).Contents (Elt F) → (⟨S8x20000x2, .f32⟩ : BufTy).Contents (Elt F) → (⟨S8x20000x2, .f32⟩ : BufTy).Contents (Elt F))
  :: StableHlo.unary main_while0b_v48 main_while0b_v54 ((extractStridedSlice S8x2 ![0, 2] · slices_S8x4_S8x2_0_2) : (⟨S8x4, .f32⟩ : BufTy).Contents (Elt F) → (⟨S8x2, .f32⟩ : BufTy).Contents (Elt F))
  :: StableHlo.unary main_v6_0 main_while0b_v55 ((extractStridedSlice S8x20000x2 ![0, 0, 2] · slices_S8x20000x4_S8x20000x2_0_0_2) : (⟨S8x20000x4, .f32⟩ : BufTy).Contents (Elt F) → (⟨S8x20000x2, .f32⟩ : BufTy).Contents (Elt F))
  :: StableHlo.unary main_while0b_v54 main_while0b_v56 (broadcastInDim S8x1x2 ![0, 2] bcast_S8x2_S8x1x2_0_2 : (⟨S8x2, .f32⟩ : BufTy).Contents (Elt F) → (⟨S8x1x2, .f32⟩ : BufTy).Contents (Elt F))
  :: StableHlo.unary main_while0b_v56 main_while0b_v57 (broadcastInDim S8x20000x2 ![0, 1, 2] bcast_S8x1x2_S8x20000x2_0_1_2 : (⟨S8x1x2, .f32⟩ : BufTy).Contents (Elt F) → (⟨S8x20000x2, .f32⟩ : BufTy).Contents (Elt F))
  :: StableHlo.binary main_while0b_v57 main_while0b_v55 main_while0b_v58 (minimumf : (⟨S8x20000x2, .f32⟩ : BufTy).Contents (Elt F) → (⟨S8x20000x2, .f32⟩ : BufTy).Contents (Elt F) → (⟨S8x20000x2, .f32⟩ : BufTy).Contents (Elt F))
  :: StableHlo.binary main_while0b_v58 main_while0b_v53 main_while0b_v59 (subf : (⟨S8x20000x2, .f32⟩ : BufTy).Contents (Elt F) → (⟨S8x20000x2, .f32⟩ : BufTy).Contents (Elt F) → (⟨S8x20000x2, .f32⟩ : BufTy).Contents (Elt F))
  :: StableHlo.nullary main_while0b_cst_20 (constant S_ .f32 0x00000000#32)
  :: StableHlo.unary main_while0b_cst_20 main_while0b_v60 (broadcastInDim S8x20000x2 ![] bcast_S_S8x20000x2 : (⟨S_, .f32⟩ : BufTy).Contents (Elt F) → (⟨S8x20000x2, .f32⟩ : BufTy).Contents (Elt F))
  :: StableHlo.binary main_while0b_v59 main_while0b_v60 main_while0b_v61 (maximumf : (⟨S8x20000x2, .f32⟩ : BufTy).Contents (Elt F) → (⟨S8x20000x2, .f32⟩ : BufTy).Contents (Elt F) → (⟨S8x20000x2, .f32⟩ : BufTy).Contents (Elt F))
  :: StableHlo.unary main_while0b_v61 main_while0b_v62 ((extractStridedSlice S8x20000x1 ![0, 0, 0] · slices_S8x20000x2_S8x20000x1_0_0_0) : (⟨S8x20000x2, .f32⟩ : BufTy).Contents (Elt F) → (⟨S8x20000x1, .f32⟩ : BufTy).Contents (Elt F))
  :: StableHlo.reshape main_while0b_v62 main_while0b_v63 (rfl : (.f32 : EltTy) = .f32) shapeCasts_S8x20000x1_S8x20000
  :: StableHlo.unary main_while0b_v61 main_while0b_v64 ((extractStridedSlice S8x20000x1 ![0, 0, 1] · slices_S8x20000x2_S8x20000x1_0_0_1) : (⟨S8x20000x2, .f32⟩ : BufTy).Contents (Elt F) → (⟨S8x20000x1, .f32⟩ : BufTy).Contents (Elt F))
  :: StableHlo.reshape main_while0b_v64 main_while0b_v65 (rfl : (.f32 : EltTy) = .f32) shapeCasts_S8x20000x1_S8x20000
  :: StableHlo.binary main_while0b_v63 main_while0b_v65 main_while0b_v66 (mulf : (⟨S8x20000, .f32⟩ : BufTy).Contents (Elt F) → (⟨S8x20000, .f32⟩ : BufTy).Contents (Elt F) → (⟨S8x20000, .f32⟩ : BufTy).Contents (Elt F))
  :: StableHlo.unary main_while0b_v48 main_while0b_v67 ((extractStridedSlice S8x2 ![0, 2] · slices_S8x4_S8x2_0_2) : (⟨S8x4, .f32⟩ : BufTy).Contents (Elt F) → (⟨S8x2, .f32⟩ : BufTy).Contents (Elt F))
  :: StableHlo.unary main_while0b_v48 main_while0b_v68 ((extractStridedSlice S8x2 ![0, 0] · slices_S8x4_S8x2_0_0) : (⟨S8x4, .f32⟩ : BufTy).Contents (Elt F) → (⟨S8x2, .f32⟩ : BufTy).Contents (Elt F))
  :: StableHlo.binary main_while0b_v67 main_while0b_v68 main_while0b_v69 (subf : (⟨S8x2, .f32⟩ : BufTy).Contents (Elt F) → (⟨S8x2, .f32⟩ : BufTy).Contents (Elt F) → (⟨S8x2, .f32⟩ : BufTy).Contents (Elt F))
  :: StableHlo.nullary main_while0b_cst_21 (constant S_ .f32 0x00000000#32)
  :: StableHlo.unary main_while0b_cst_21 main_while0b_v70 (broadcastInDim S8x2 ![] bcast_S_S8x2 : (⟨S_, .f32⟩ : BufTy).Contents (Elt F) → (⟨S8x2, .f32⟩ : BufTy).Contents (Elt F))
  :: StableHlo.binary main_while0b_v69 main_while0b_v70 main_while0b_v71 (maximumf : (⟨S8x2, .f32⟩ : BufTy).Contents (Elt F) → (⟨S8x2, .f32⟩ : BufTy).Contents (Elt F) → (⟨S8x2, .f32⟩ : BufTy).Contents (Elt F))
  :: StableHlo.unary main_while0b_v71 main_while0b_v72 ((extractStridedSlice S8x1 ![0, 0] · slices_S8x2_S8x1_0_0) : (⟨S8x2, .f32⟩ : BufTy).Contents (Elt F) → (⟨S8x1, .f32⟩ : BufTy).Contents (Elt F))
  :: StableHlo.reshape main_while0b_v72 main_while0b_v73 (rfl : (.f32 : EltTy) = .f32) shapeCasts_S8x1_S8
  :: StableHlo.unary main_while0b_v71 main_while0b_v74 ((extractStridedSlice S8x1 ![0, 1] · slices_S8x2_S8x1_0_1) : (⟨S8x2, .f32⟩ : BufTy).Contents (Elt F) → (⟨S8x1, .f32⟩ : BufTy).Contents (Elt F))
  :: StableHlo.reshape main_while0b_v74 main_while0b_v75 (rfl : (.f32 : EltTy) = .f32) shapeCasts_S8x1_S8
  :: StableHlo.binary main_while0b_v73 main_while0b_v75 main_while0b_v76 (mulf : (⟨S8, .f32⟩ : BufTy).Contents (Elt F) → (⟨S8, .f32⟩ : BufTy).Contents (Elt F) → (⟨S8, .f32⟩ : BufTy).Contents (Elt F))
  :: StableHlo.unary main_v6_0 main_while0b_v77 ((extractStridedSlice S8x20000x2 ![0, 0, 2] · slices_S8x20000x4_S8x20000x2_0_0_2) : (⟨S8x20000x4, .f32⟩ : BufTy).Contents (Elt F) → (⟨S8x20000x2, .f32⟩ : BufTy).Contents (Elt F))
  :: StableHlo.unary main_v6_0 main_while0b_v78 ((extractStridedSlice S8x20000x2 ![0, 0, 0] · slices_S8x20000x4_S8x20000x2_0_0_0) : (⟨S8x20000x4, .f32⟩ : BufTy).Contents (Elt F) → (⟨S8x20000x2, .f32⟩ : BufTy).Contents (Elt F))
  :: StableHlo.binary main_while0b_v77 main_while0b_v78 main_while0b_v79 (subf : (⟨S8x20000x2, .f32⟩ : BufTy).Contents (Elt F) → (⟨S8x20000x2, .f32⟩ : BufTy).Contents (Elt F) → (⟨S8x20000x2, .f32⟩ : BufTy).Contents (Elt F))
  :: StableHlo.nullary main_while0b_cst_22 (constant S_ .f32 0x00000000#32)
  :: StableHlo.unary main_while0b_cst_22 main_while0b_v80 (broadcastInDim S8x20000x2 ![] bcast_S_S8x20000x2 : (⟨S_, .f32⟩ : BufTy).Contents (Elt F) → (⟨S8x20000x2, .f32⟩ : BufTy).Contents (Elt F))
  :: StableHlo.binary main_while0b_v79 main_while0b_v80 main_while0b_v81 (maximumf : (⟨S8x20000x2, .f32⟩ : BufTy).Contents (Elt F) → (⟨S8x20000x2, .f32⟩ : BufTy).Contents (Elt F) → (⟨S8x20000x2, .f32⟩ : BufTy).Contents (Elt F))
  :: StableHlo.unary main_while0b_v81 main_while0b_v82 ((extractStridedSlice S8x20000x1 ![0, 0, 0] · slices_S8x20000x2_S8x20000x1_0_0_0) : (⟨S8x20000x2, .f32⟩ : BufTy).Contents (Elt F) → (⟨S8x20000x1, .f32⟩ : BufTy).Contents (Elt F))
  :: StableHlo.reshape main_while0b_v82 main_while0b_v83 (rfl : (.f32 : EltTy) = .f32) shapeCasts_S8x20000x1_S8x20000
  :: StableHlo.unary main_while0b_v81 main_while0b_v84 ((extractStridedSlice S8x20000x1 ![0, 0, 1] · slices_S8x20000x2_S8x20000x1_0_0_1) : (⟨S8x20000x2, .f32⟩ : BufTy).Contents (Elt F) → (⟨S8x20000x1, .f32⟩ : BufTy).Contents (Elt F))
  :: StableHlo.reshape main_while0b_v84 main_while0b_v85 (rfl : (.f32 : EltTy) = .f32) shapeCasts_S8x20000x1_S8x20000
  :: StableHlo.binary main_while0b_v83 main_while0b_v85 main_while0b_v86 (mulf : (⟨S8x20000, .f32⟩ : BufTy).Contents (Elt F) → (⟨S8x20000, .f32⟩ : BufTy).Contents (Elt F) → (⟨S8x20000, .f32⟩ : BufTy).Contents (Elt F))
  :: StableHlo.unary main_while0b_v76 main_while0b_v87 (broadcastInDim S8x1 ![0] bcast_S8_S8x1_0 : (⟨S8, .f32⟩ : BufTy).Contents (Elt F) → (⟨S8x1, .f32⟩ : BufTy).Contents (Elt F))
  :: StableHlo.unary main_while0b_v87 main_while0b_v88 (broadcastInDim S8x20000 ![0, 1] bcast_S8x1_S8x20000_0_1 : (⟨S8x1, .f32⟩ : BufTy).Contents (Elt F) → (⟨S8x20000, .f32⟩ : BufTy).Contents (Elt F))
  :: StableHlo.binary main_while0b_v88 main_while0b_v86 main_while0b_v89 (addf : (⟨S8x20000, .f32⟩ : BufTy).Contents (Elt F) → (⟨S8x20000, .f32⟩ : BufTy).Contents (Elt F) → (⟨S8x20000, .f32⟩ : BufTy).Contents (Elt F))
  :: StableHlo.binary main_while0b_v89 main_while0b_v66 main_while0b_v90 (subf : (⟨S8x20000, .f32⟩ : BufTy).Contents (Elt F) → (⟨S8x20000, .f32⟩ : BufTy).Contents (Elt F) → (⟨S8x20000, .f32⟩ : BufTy).Contents (Elt F))
  :: StableHlo.nullary main_while0b_cst_23 (constant S_ .f32 0x322BCC77#32)
  :: StableHlo.unary main_while0b_cst_23 main_while0b_v91 (broadcastInDim S8x20000 ![] bcast_S_S8x20000 : (⟨S_, .f32⟩ : BufTy).Contents (Elt F) → (⟨S8x20000, .f32⟩ : BufTy).Contents (Elt F))
  :: StableHlo.binary main_while0b_v90 main_while0b_v91 main_while0b_v92 (maximumf : (⟨S8x20000, .f32⟩ : BufTy).Contents (Elt F) → (⟨S8x20000, .f32⟩ : BufTy).Contents (Elt F) → (⟨S8x20000, .f32⟩ : BufTy).Contents (Elt F))
  :: StableHlo.binary main_while0b_v66 main_while0b_v92 main_while0b_v93 (Host.divf : (⟨S8x20000, .f32⟩ : BufTy).Contents (Elt F) → (⟨S8x20000, .f32⟩ : BufTy).Contents (Elt F) → (⟨S8x20000, .f32⟩ : BufTy).Contents (Elt F))
  :: StableHlo.nullary main_while0b_cst_24 (constant S_ .f32 0x3F000000#32)
  :: StableHlo.unary main_while0b_cst_24 main_while0b_v94 (broadcastInDim S8x20000 ![] bcast_S_S8x20000 : (⟨S_, .f32⟩ : BufTy).Contents (Elt F) → (⟨S8x20000, .f32⟩ : BufTy).Contents (Elt F))
  :: StableHlo.binary main_while0b_v93 main_while0b_v94 main_while0b_v95 (cmpf .ogt : (⟨S8x20000, .f32⟩ : BufTy).Contents (Elt F) → (⟨S8x20000, .f32⟩ : BufTy).Contents (Elt F) → (⟨S8x20000, .i1⟩ : BufTy).Contents (Elt F))
  :: StableHlo.nullary main_while0b_cst_25 (constant S_ .f32 0xF149F2CA#32)
  :: [] )
/-- It touches the device's own arrays only. -/
theorem tripOps4_sub : (tripOps4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
/-- One trip: the overlapping boxes get the low score. -/
abbrev tripOps5 : List (HloOp τ sig (Elt F)) :=
  [ StableHlo.TRef.unary (.of main_while0b_cst_25 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S20000, .f32⟩) (broadcastInDim S20000 ![] bcast_S_S20000),
    StableHlo.TRef.unary (.of main_while0b_call4_v1 : StableHlo.TRef sig ⟨S20000, .f32⟩) (.of main_while0b_call4_v2 : StableHlo.TRef sig ⟨S8x20000, .f32⟩) (broadcastInDim S8x20000 ![1] bcast_S20000_S8x20000_1),
    StableHlo.TRef.ternary (.of main_while0b_v95 : StableHlo.TRef sig ⟨S8x20000, .i1⟩) (.of main_while0b_call4_v2 : StableHlo.TRef sig ⟨S8x20000, .f32⟩) (.of main_v6_2 : StableHlo.TRef sig ⟨S8x20000, .f32⟩) (.of main_while0b_v96 : StableHlo.TRef sig ⟨S8x20000, .f32⟩) select ]
/-- It touches the device's own arrays only. -/
theorem tripOps5_sub : (tripOps5 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- One trip: which box was selected. -/
abbrev tripOps6 : List (HloOp τ sig (Elt F)) :=
  [ StableHlo.nullary main_while0b_v97 (iotaInDim S20000 32 0),
    StableHlo.unary main_while0b_v97 main_while0b_v98 (broadcastInDim S1x20000 ![1] bcast_S20000_S1x20000_1 : (⟨S20000, .i32⟩ : BufTy).Contents (Elt F) → (⟨S1x20000, .i32⟩ : BufTy).Contents (Elt F)),
    StableHlo.unary main_while0b_v44 main_while0b_v99 (broadcastInDim S8x1 ![0] bcast_S8_S8x1_0 : (⟨S8, .i32⟩ : BufTy).Contents (Elt F) → (⟨S8x1, .i32⟩ : BufTy).Contents (Elt F)),
    StableHlo.unary main_while0b_v98 main_while0b_v100 (broadcastInDim S8x20000 ![0, 1] bcast_S1x20000_S8x20000_0_1 : (⟨S1x20000, .i32⟩ : BufTy).Contents (Elt F) → (⟨S8x20000, .i32⟩ : BufTy).Contents (Elt F)),
    StableHlo.unary main_while0b_v99 main_while0b_v101 (broadcastInDim S8x20000 ![0, 1] bcast_S8x1_S8x20000_0_1 : (⟨S8x1, .i32⟩ : BufTy).Contents (Elt F) → (⟨S8x20000, .i32⟩ : BufTy).Contents (Elt F)),
    StableHlo.binary main_while0b_v100 main_while0b_v101 main_while0b_v102 (cmpi .eq : (⟨S8x20000, .i32⟩ : BufTy).Contents (Elt F) → (⟨S8x20000, .i32⟩ : BufTy).Contents (Elt F) → (⟨S8x20000, .i1⟩ : BufTy).Contents (Elt F)),
    StableHlo.nullary main_while0b_cst_26 (constant S_ .f32 0xF149F2CA#32) ]
/-- It touches the device's own arrays only. -/
theorem tripOps6_sub : (tripOps6 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.nullary_bufs_sub ..⟩
/-- One trip: the selected box gets the low score. -/
abbrev tripOps7 : List (HloOp τ sig (Elt F)) :=
  [ StableHlo.TRef.unary (.of main_while0b_cst_26 : StableHlo.TRef sig ⟨S_, .f32⟩) (.of main_while0b_call5_v0 : StableHlo.TRef sig ⟨S_, .f32⟩) id,
    StableHlo.TRef.unary (.of main_while0b_call5_v0 : StableHlo.TRef sig ⟨S_, .f32⟩) (.of main_while0b_call5_v1 : StableHlo.TRef sig ⟨S20000, .f32⟩) (broadcastInDim S20000 ![] bcast_S_S20000),
    StableHlo.TRef.unary (.of main_while0b_call5_v1 : StableHlo.TRef sig ⟨S20000, .f32⟩) (.of main_while0b_call5_v2 : StableHlo.TRef sig ⟨S8x20000, .f32⟩) (broadcastInDim S8x20000 ![1] bcast_S20000_S8x20000_1),
    StableHlo.TRef.ternary (.of main_while0b_v102 : StableHlo.TRef sig ⟨S8x20000, .i1⟩) (.of main_while0b_call5_v2 : StableHlo.TRef sig ⟨S8x20000, .f32⟩) (.of main_while0b_v96 : StableHlo.TRef sig ⟨S8x20000, .f32⟩) (.of main_while0b_v103 : StableHlo.TRef sig ⟨S8x20000, .f32⟩) select ]
/-- It touches the device's own arrays only. -/
theorem tripOps7_sub : (tripOps7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- One trip: the selected box's index written to the trip's row. -/
abbrev tripOps8 : List (HloOp τ sig (Elt F)) :=
  [ StableHlo.TRef.unary (.of main_while0b_v44 : StableHlo.TRef sig ⟨S8, .i32⟩) (.of main_while0b_call6_v0 : StableHlo.TRef sig ⟨S1x8, .i32⟩) (broadcastInDim S1x8 ![1] bcast_S8_S1x8_1),
    StableHlo.TRef.nullary (.of main_while0b_call6_c : StableHlo.TRef sig ⟨S_, .i32⟩) (constantI S_ 32 0#32),
    StableHlo.TRef.binaryIndexed (.of main_v6_3 : StableHlo.TRef sig ⟨S100x8, .i32⟩) (.of main_while0b_call6_v0 : StableHlo.TRef sig ⟨S1x8, .i32⟩) ![(.of main_v6_1 : StableHlo.TRef sig ⟨S_, .i32⟩), (.of main_while0b_call6_c : StableHlo.TRef sig ⟨S_, .i32⟩)] (.of main_while0b_v104 : StableHlo.TRef sig ⟨S100x8, .i32⟩) (fun x u i => Host.dynamicUpdateSlice x u (fun k => (i k (Shape.Idx.first h_S_)).toInt) updateFits_S100x8_S1x8) ]
/-- It touches the device's own arrays only. -/
theorem tripOps8_sub : (tripOps8 : List (HloOp τ sig (Elt F))).Forall fun op => op.bufs ⊆ StableHlo.tcRefs τ sig :=
  ⟨StableHlo.unary_bufs_sub .., StableHlo.nullary_bufs_sub .., StableHlo.binaryIndexed_bufs_sub ..⟩
/-- One trip: whether it is kept, written to the trip's row. -/
abbrev tripOps9 : List (HloOp τ sig (Elt F)) :=
  [ StableHlo.TRef.unary (.of main_while0b_v47 : StableHlo.TRef sig ⟨S8, .i1⟩) (.of main_while0b_call7_v0 : StableHlo.TRef sig ⟨S1x8, .i1⟩) (broadcastInDim S1x8 ![1] bcast_S8_S1x8_1),
    StableHlo.TRef.nullary (.of main_while0b_call7_c : StableHlo.TRef sig ⟨S_, .i32⟩) (constantI S_ 32 0#32),
    StableHlo.TRef.binaryIndexed (.of main_v6_4 : StableHlo.TRef sig ⟨S100x8, .i1⟩) (.of main_while0b_call7_v0 : StableHlo.TRef sig ⟨S1x8, .i1⟩) ![(.of main_v6_1 : StableHlo.TRef sig ⟨S_, .i32⟩), (.of main_while0b_call7_c : StableHlo.TRef sig ⟨S_, .i32⟩)] (.of main_while0b_v105 : StableHlo.TRef sig ⟨S100x8, .i1⟩) (fun x u i => Host.dynamicUpdateSlice x u (fun k => (i k (Shape.Idx.first h_S_)).toInt) updateFits_S100x8_S1x8) ]
/-- It touches the device's own arrays only. -/
theorem tripOps9_sub : (tripOps9 : List (HloOp τ sig (Elt F))).Forall fun op => op.bufs ⊆ StableHlo.tcRefs τ sig :=
  ⟨StableHlo.unary_bufs_sub .., StableHlo.nullary_bufs_sub .., StableHlo.binaryIndexed_bufs_sub ..⟩
/-- One trip: the counter one up, and the carried buffers replaced. -/
abbrev tripOps10 : List (HloOp τ sig (Elt F)) :=
  [ StableHlo.nullary main_while0b_c_27 (constantI S_ 32 1#32),
    StableHlo.binary main_v6_1 main_while0b_c_27 main_while0b_v106 (addi : (⟨S_, .i32⟩ : BufTy).Contents (Elt F) → (⟨S_, .i32⟩ : BufTy).Contents (Elt F) → (⟨S_, .i32⟩ : BufTy).Contents (Elt F)),
    StableHlo.unary main_while0b_v106 main_v6_1 id,
    StableHlo.unary main_while0b_v103 main_v6_2 id,
    StableHlo.unary main_while0b_v104 main_v6_3 id,
    StableHlo.unary main_while0b_v105 main_v6_4 id ]
/-- It touches the device's own arrays only. -/
theorem tripOps10_sub : (tripOps10 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- The first part of the main block is its stretches in order. -/
theorem main_part0_chain (c : Dev nD) : main_part0 (F := F) c = (Pipeline.chainK
  [ StableHlo.seq preOps0,
    StableHlo.seq preOps1,
    StableHlo.seq preOps2,
    HostLoop.enter 0,
    StableHlo.seq postOps0 ]
  (StableHlo.seq postOps1) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, Pipeline.chainK_cons]
  chain_rfl

/-- The second part of the main block is its stretches in order. -/
theorem main_part1_chain (c : Dev nD) : main_part1 (F := F) c = (Pipeline.chain
  [ StableHlo.seq postOps2,
    StableHlo.seq postOps3,
    StableHlo.seq postOps4,
    StableHlo.seq postOps5,
    StableHlo.seq postOps6,
    StableHlo.seq postOps7 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons, Pipeline.chain_cons, StableHlo.chain_seq_cons, Pipeline.chain_cons]
  chain_rfl

/-- The main block is its stretches and its loop, in order. -/
theorem main_chain (c : Dev nD) : main (F := F) c = (Pipeline.chain
  [ StableHlo.seq preOps0,
    StableHlo.seq preOps1,
    StableHlo.seq preOps2,
    HostLoop.enter 0,
    StableHlo.seq postOps0,
    StableHlo.seq postOps1,
    StableHlo.seq postOps2,
    StableHlo.seq postOps3,
    StableHlo.seq postOps4,
    StableHlo.seq postOps5,
    StableHlo.seq postOps6,
    StableHlo.seq postOps7 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- The loop's body is its stretches in order. -/
theorem while0_body_chain : main_while0_body (F := F) = (Pipeline.chain
  [ StableHlo.seq tripOps0,
    StableHlo.seq tripOps1,
    StableHlo.seq tripOps2,
    StableHlo.seq tripOps3,
    StableHlo.seq tripOps4,
    StableHlo.seq tripOps5,
    StableHlo.seq tripOps6,
    StableHlo.seq tripOps7,
    StableHlo.seq tripOps8,
    StableHlo.seq tripOps9,
    StableHlo.seq tripOps10 ] : Prog (TpuEff nD τ sig (Elt F) (HostLoop.Sig (Pipeline.Sig Λ₀ (Fin 0) fun p => (pcfgs (F := F) p).Adm) 1) .tc) PUnit) := by
  rewrite [Pipeline.chain_cons, Pipeline.chain_cons, StableHlo.chain_seq_cons, Pipeline.chain_cons, StableHlo.chain_seq_cons, Pipeline.chain_cons, StableHlo.chain_seq_cons, Pipeline.chain_cons, Pipeline.chain_cons, Pipeline.chain_cons, StableHlo.chain_seq_cons]
  chain_rfl

end Cert.ReferenceIdeal.Gen

end
-- ==== Proof.RefRun.lean ====
module

public import proofs.«01_k».proof.Proof.RefOps
public import Idealize.ShloMosaic.Lib.Quiescent

@[expose] public section

set_option maxRecDepth 2000

noncomputable section

namespace Cert.ReferenceIdeal.Gen

open Idealize.ShloMosaic Idealize.ShloMosaic.TcCoe
open Idealize.SL Idealize.SL.RA Idealize.SL.BI
open scoped Idealize.SL.BI
open Idealize.ShloMosaic.Tactic Idealize.SL.ProofMode Idealize.SL.BI.Laws
open Idealize.SL.BI.BIBase Idealize.SL.Sem
open Idealize.ShloMosaic.StableHlo
open Idealize.ShloMosaic.Pipeline (ucRefs sub_ucRefs)

variable {F : FTy → Type} [FloatOps F]

/-! # The reference's run: every array after the stretches and the 100 trips -/

/-- It allocates nothing. -/
theorem preOps0_fresh : (preOps0 : List (HloOp τ sig (Elt F))).Forall fun op => op.fresh = ∅ :=
  StableHlo.forall_fresh_of_map rfl
/-- The arrays it writes, in order. -/
abbrev preOps0_W : List (Ref sig .tc) := [main_cst, main_v0, main_cst_0, main_v1, main_v2, main_cst_1]
/-- It writes those only. -/
theorem preOps0_writes : (preOps0 : List (HloOp τ sig (Elt F))).Forall fun op => op.writes ⊆ (preOps0_W.map (Proc.devRef (τ := τ) .tc)).toFinset :=
  StableHlo.forall_writes_sub_of_map rfl
/-- It allocates nothing. -/
theorem preOps1_fresh : (preOps1 : List (HloOp τ sig (Elt F))).Forall fun op => op.fresh = ∅ :=
  StableHlo.forall_fresh_of_map rfl
/-- The arrays it writes, in order. -/
abbrev preOps1_W : List (Ref sig .tc) := [main_call0_v0, main_call0_v1, main_call0_v2, main_v3]
/-- It writes those only. -/
theorem preOps1_writes : (preOps1 : List (HloOp τ sig (Elt F))).Forall fun op => op.writes ⊆ (preOps1_W.map (Proc.devRef (τ := τ) .tc)).toFinset :=
  StableHlo.forall_writes_sub_of_map rfl
/-- It allocates nothing. -/
theorem preOps2_fresh : (preOps2 : List (HloOp τ sig (Elt F))).Forall fun op => op.fresh = ∅ :=
  StableHlo.forall_fresh_of_map rfl
/-- The arrays it writes, in order. -/
abbrev preOps2_W : List (Ref sig .tc) := [main_c, main_v4, main_c_2, main_v5, main_c_3, main_v6_0, main_v6_1, main_v6_2, main_v6_3, main_v6_4]
/-- It writes those only. -/
theorem preOps2_writes : (preOps2 : List (HloOp τ sig (Elt F))).Forall fun op => op.writes ⊆ (preOps2_W.map (Proc.devRef (τ := τ) .tc)).toFinset :=
  StableHlo.forall_writes_sub_of_map rfl
/-- It allocates nothing. -/
theorem postOps0_fresh : (postOps0 : List (HloOp τ sig (Elt F))).Forall fun op => op.fresh = ∅ :=
  StableHlo.forall_fresh_of_map rfl
/-- The arrays it writes, in order. -/
abbrev postOps0_W : List (Ref sig .tc) := [main_call8_v0, main_call8_cst, main_call8_c, main_call8_v1_0, main_v7]
/-- It writes those only. -/
theorem postOps0_writes : (postOps0 : List (HloOp τ sig (Elt F))).Forall fun op => op.writes ⊆ (postOps0_W.map (Proc.devRef (τ := τ) .tc)).toFinset :=
  StableHlo.forall_writes_sub_of_map rfl
/-- It allocates nothing. -/
theorem postOps1_fresh : (postOps1 : List (HloOp τ sig (Elt F))).Forall fun op => op.fresh = ∅ :=
  StableHlo.forall_fresh_of_map rfl
/-- The arrays it writes, in order. -/
abbrev postOps1_W : List (Ref sig .tc) := [main_c_4, main_v8, main_v9, main_c_5, main_v10, main_v11, main_v12, main_v13, main_v14, main_v15, main_c_6, main_v16, main_v17, main_c_7, main_v18, main_v19, main_v20, main_c_8, main_v21, main_v22, main_c_9, main_v23, main_v24, main_v25, main_v26, main_v27, main_v28, main_v29, main_v30, main_c_10, main_v31, main_v32, main_c_11, main_v33, main_v34, main_v35, main_v36, main_v37, main_v38, main_v39, main_v40]
/-- It writes those only. -/
theorem postOps1_writes : (postOps1 : List (HloOp τ sig (Elt F))).Forall fun op => op.writes ⊆ (postOps1_W.map (Proc.devRef (τ := τ) .tc)).toFinset :=
  StableHlo.forall_writes_sub_of_map rfl
/-- It allocates nothing. -/
theorem postOps2_fresh : (postOps2 : List (HloOp τ sig (Elt F))).Forall fun op => op.fresh = ∅ :=
  StableHlo.forall_fresh_of_map rfl
/-- The arrays it writes, in order. -/
abbrev postOps2_W : List (Ref sig .tc) := [main_cst_12]
/-- It writes those only. -/
theorem postOps2_writes : (postOps2 : List (HloOp τ sig (Elt F))).Forall fun op => op.writes ⊆ (postOps2_W.map (Proc.devRef (τ := τ) .tc)).toFinset :=
  StableHlo.forall_writes_sub_of_map rfl
/-- It allocates nothing. -/
theorem postOps3_fresh : (postOps3 : List (HloOp τ sig (Elt F))).Forall fun op => op.fresh = ∅ :=
  StableHlo.forall_fresh_of_map rfl
/-- The arrays it writes, in order. -/
abbrev postOps3_W : List (Ref sig .tc) := [main_call9_v0, main_call9_v1, main_call9_v2, main_call9_v3, main_v41]
/-- It writes those only. -/
theorem postOps3_writes : (postOps3 : List (HloOp τ sig (Elt F))).Forall fun op => op.writes ⊆ (postOps3_W.map (Proc.devRef (τ := τ) .tc)).toFinset :=
  StableHlo.forall_writes_sub_of_map rfl
/-- It allocates nothing. -/
theorem postOps4_fresh : (postOps4 : List (HloOp τ sig (Elt F))).Forall fun op => op.fresh = ∅ :=
  StableHlo.forall_fresh_of_map rfl
/-- The arrays it writes, in order. -/
abbrev postOps4_W : List (Ref sig .tc) := [main_cst_13]
/-- It writes those only. -/
theorem postOps4_writes : (postOps4 : List (HloOp τ sig (Elt F))).Forall fun op => op.writes ⊆ (postOps4_W.map (Proc.devRef (τ := τ) .tc)).toFinset :=
  StableHlo.forall_writes_sub_of_map rfl
/-- It allocates nothing. -/
theorem postOps5_fresh : (postOps5 : List (HloOp τ sig (Elt F))).Forall fun op => op.fresh = ∅ :=
  StableHlo.forall_fresh_of_map rfl
/-- The arrays it writes, in order. -/
abbrev postOps5_W : List (Ref sig .tc) := [main_call10_v0, main_call10_v1, main_call10_v2, main_call10_v3, main_v42]
/-- It writes those only. -/
theorem postOps5_writes : (postOps5 : List (HloOp τ sig (Elt F))).Forall fun op => op.writes ⊆ (postOps5_W.map (Proc.devRef (τ := τ) .tc)).toFinset :=
  StableHlo.forall_writes_sub_of_map rfl
/-- It allocates nothing. -/
theorem postOps6_fresh : (postOps6 : List (HloOp τ sig (Elt F))).Forall fun op => op.fresh = ∅ :=
  StableHlo.forall_fresh_of_map rfl
/-- The arrays it writes, in order. -/
abbrev postOps6_W : List (Ref sig .tc) := [main_c_14]
/-- It writes those only. -/
theorem postOps6_writes : (postOps6 : List (HloOp τ sig (Elt F))).Forall fun op => op.writes ⊆ (postOps6_W.map (Proc.devRef (τ := τ) .tc)).toFinset :=
  StableHlo.forall_writes_sub_of_map rfl
/-- It allocates nothing. -/
theorem postOps7_fresh : (postOps7 : List (HloOp τ sig (Elt F))).Forall fun op => op.fresh = ∅ :=
  StableHlo.forall_fresh_of_map rfl
/-- The arrays it writes, in order. -/
abbrev postOps7_W : List (Ref sig .tc) := [main_call11_v0, main_call11_v1, main_call11_v2, main_call11_v3, main_v43]
/-- It writes those only. -/
theorem postOps7_writes : (postOps7 : List (HloOp τ sig (Elt F))).Forall fun op => op.writes ⊆ (postOps7_W.map (Proc.devRef (τ := τ) .tc)).toFinset :=
  StableHlo.forall_writes_sub_of_map rfl
/-- It allocates nothing. -/
theorem tripOps0_fresh : (tripOps0 : List (HloOp τ sig (Elt F))).Forall fun op => op.fresh = ∅ :=
  StableHlo.forall_fresh_of_map rfl
/-- The arrays it writes, in order. -/
abbrev tripOps0_W : List (Ref sig .tc) := [main_while0b_call1_v0, main_while0b_call1_cst, main_while0b_call1_c, main_while0b_call1_v1_0, main_while0b_v44]
/-- It writes those only. -/
theorem tripOps0_writes : (tripOps0 : List (HloOp τ sig (Elt F))).Forall fun op => op.writes ⊆ (tripOps0_W.map (Proc.devRef (τ := τ) .tc)).toFinset :=
  StableHlo.forall_writes_sub_of_map rfl
/-- It allocates nothing. -/
theorem tripOps1_fresh : (tripOps1 : List (HloOp τ sig (Elt F))).Forall fun op => op.fresh = ∅ :=
  StableHlo.forall_fresh_of_map rfl
/-- The arrays it writes, in order. -/
abbrev tripOps1_W : List (Ref sig .tc) := [main_while0b_call2_v0, main_while0b_v45]
/-- It writes those only. -/
theorem tripOps1_writes : (tripOps1 : List (HloOp τ sig (Elt F))).Forall fun op => op.writes ⊆ (tripOps1_W.map (Proc.devRef (τ := τ) .tc)).toFinset :=
  StableHlo.forall_writes_sub_of_map rfl
/-- It allocates nothing. -/
theorem tripOps2_fresh : (tripOps2 : List (HloOp τ sig (Elt F))).Forall fun op => op.fresh = ∅ :=
  StableHlo.forall_fresh_of_map rfl
/-- The arrays it writes, in order. -/
abbrev tripOps2_W : List (Ref sig .tc) := [main_while0b_cst_19, main_while0b_v46, main_while0b_v47]
/-- It writes those only. -/
theorem tripOps2_writes : (tripOps2 : List (HloOp τ sig (Elt F))).Forall fun op => op.writes ⊆ (tripOps2_W.map (Proc.devRef (τ := τ) .tc)).toFinset :=
  StableHlo.forall_writes_sub_of_map rfl
/-- It allocates nothing. -/
theorem tripOps3_fresh : (tripOps3 : List (HloOp τ sig (Elt F))).Forall fun op => op.fresh = ∅ :=
  StableHlo.forall_fresh_of_map rfl
/-- The arrays it writes, in order. -/
abbrev tripOps3_W : List (Ref sig .tc) := [main_while0b_call3_v0, main_while0b_v48]
/-- It writes those only. -/
theorem tripOps3_writes : (tripOps3 : List (HloOp τ sig (Elt F))).Forall fun op => op.writes ⊆ (tripOps3_W.map (Proc.devRef (τ := τ) .tc)).toFinset :=
  StableHlo.forall_writes_sub_of_map rfl
/-- It allocates nothing. -/
theorem tripOps4_fresh : (tripOps4 : List (HloOp τ sig (Elt F))).Forall fun op => op.fresh = ∅ :=
  StableHlo.forall_fresh_of_map rfl
/-- The arrays it writes, in order. -/
abbrev tripOps4_W : List (Ref sig .tc) := [main_while0b_v49, main_while0b_v50, main_while0b_v51, main_while0b_v52, main_while0b_v53, main_while0b_v54, main_while0b_v55, main_while0b_v56, main_while0b_v57, main_while0b_v58, main_while0b_v59, main_while0b_cst_20, main_while0b_v60, main_while0b_v61, main_while0b_v62, main_while0b_v63, main_while0b_v64, main_while0b_v65, main_while0b_v66, main_while0b_v67, main_while0b_v68, main_while0b_v69, main_while0b_cst_21, main_while0b_v70, main_while0b_v71, main_while0b_v72, main_while0b_v73, main_while0b_v74, main_while0b_v75, main_while0b_v76, main_while0b_v77, main_while0b_v78, main_while0b_v79, main_while0b_cst_22, main_while0b_v80, main_while0b_v81, main_while0b_v82, main_while0b_v83, main_while0b_v84, main_while0b_v85, main_while0b_v86, main_while0b_v87, main_while0b_v88, main_while0b_v89, main_while0b_v90, main_while0b_cst_23, main_while0b_v91, main_while0b_v92, main_while0b_v93, main_while0b_cst_24, main_while0b_v94, main_while0b_v95, main_while0b_cst_25]
/-- It writes those only. -/
theorem tripOps4_writes : (tripOps4 : List (HloOp τ sig (Elt F))).Forall fun op => op.writes ⊆ (tripOps4_W.map (Proc.devRef (τ := τ) .tc)).toFinset :=
  StableHlo.forall_writes_sub_of_map rfl
/-- It allocates nothing. -/
theorem tripOps5_fresh : (tripOps5 : List (HloOp τ sig (Elt F))).Forall fun op => op.fresh = ∅ :=
  StableHlo.forall_fresh_of_map rfl
/-- The arrays it writes, in order. -/
abbrev tripOps5_W : List (Ref sig .tc) := [main_while0b_call4_v0, main_while0b_call4_v1, main_while0b_call4_v2, main_while0b_v96]
/-- It writes those only. -/
theorem tripOps5_writes : (tripOps5 : List (HloOp τ sig (Elt F))).Forall fun op => op.writes ⊆ (tripOps5_W.map (Proc.devRef (τ := τ) .tc)).toFinset :=
  StableHlo.forall_writes_sub_of_map rfl
/-- It allocates nothing. -/
theorem tripOps6_fresh : (tripOps6 : List (HloOp τ sig (Elt F))).Forall fun op => op.fresh = ∅ :=
  StableHlo.forall_fresh_of_map rfl
/-- The arrays it writes, in order. -/
abbrev tripOps6_W : List (Ref sig .tc) := [main_while0b_v97, main_while0b_v98, main_while0b_v99, main_while0b_v100, main_while0b_v101, main_while0b_v102, main_while0b_cst_26]
/-- It writes those only. -/
theorem tripOps6_writes : (tripOps6 : List (HloOp τ sig (Elt F))).Forall fun op => op.writes ⊆ (tripOps6_W.map (Proc.devRef (τ := τ) .tc)).toFinset :=
  StableHlo.forall_writes_sub_of_map rfl
/-- It allocates nothing. -/
theorem tripOps7_fresh : (tripOps7 : List (HloOp τ sig (Elt F))).Forall fun op => op.fresh = ∅ :=
  StableHlo.forall_fresh_of_map rfl
/-- The arrays it writes, in order. -/
abbrev tripOps7_W : List (Ref sig .tc) := [main_while0b_call5_v0, main_while0b_call5_v1, main_while0b_call5_v2, main_while0b_v103]
/-- It writes those only. -/
theorem tripOps7_writes : (tripOps7 : List (HloOp τ sig (Elt F))).Forall fun op => op.writes ⊆ (tripOps7_W.map (Proc.devRef (τ := τ) .tc)).toFinset :=
  StableHlo.forall_writes_sub_of_map rfl
/-- It allocates nothing. -/
theorem tripOps8_fresh : (tripOps8 : List (HloOp τ sig (Elt F))).Forall fun op => op.fresh = ∅ :=
  StableHlo.forall_fresh_of_map rfl
/-- The arrays it writes, in order. -/
abbrev tripOps8_W : List (Ref sig .tc) := [main_while0b_call6_v0, main_while0b_call6_c, main_while0b_v104]
/-- It writes those only. -/
theorem tripOps8_writes : (tripOps8 : List (HloOp τ sig (Elt F))).Forall fun op => op.writes ⊆ (tripOps8_W.map (Proc.devRef (τ := τ) .tc)).toFinset :=
  StableHlo.forall_writes_sub_of_map rfl
/-- It allocates nothing. -/
theorem tripOps9_fresh : (tripOps9 : List (HloOp τ sig (Elt F))).Forall fun op => op.fresh = ∅ :=
  StableHlo.forall_fresh_of_map rfl
/-- The arrays it writes, in order. -/
abbrev tripOps9_W : List (Ref sig .tc) := [main_while0b_call7_v0, main_while0b_call7_c, main_while0b_v105]
/-- It writes those only. -/
theorem tripOps9_writes : (tripOps9 : List (HloOp τ sig (Elt F))).Forall fun op => op.writes ⊆ (tripOps9_W.map (Proc.devRef (τ := τ) .tc)).toFinset :=
  StableHlo.forall_writes_sub_of_map rfl
/-- It allocates nothing. -/
theorem tripOps10_fresh : (tripOps10 : List (HloOp τ sig (Elt F))).Forall fun op => op.fresh = ∅ :=
  StableHlo.forall_fresh_of_map rfl
/-- The arrays it writes, in order. -/
abbrev tripOps10_W : List (Ref sig .tc) := [main_while0b_c_27, main_while0b_v106, main_v6_1, main_v6_2, main_v6_3, main_v6_4]
/-- It writes those only. -/
theorem tripOps10_writes : (tripOps10 : List (HloOp τ sig (Elt F))).Forall fun op => op.writes ⊆ (tripOps10_W.map (Proc.devRef (τ := τ) .tc)).toFinset :=
  StableHlo.forall_writes_sub_of_map rfl

/-- The loop's condition: the bound, and the counter compared with it. -/
abbrev condOps : List (HloOp τ sig (Elt F)) :=
  [ StableHlo.nullary main_while0c_c_19 (constantI S_ 32 100#32),
    StableHlo.binary main_v6_1 main_while0c_c_19 main_while0c_v44 (cmpi .slt) ]

/-- The stretches before the loop, of one trip, and after the loop. -/
abbrev preI : List (List (HloOp τ sig (Elt F))) := [preOps0, preOps1, preOps2]
abbrev bodyI : List (List (HloOp τ sig (Elt F))) := [tripOps0, tripOps1, tripOps2, tripOps3, tripOps4, tripOps5, tripOps6, tripOps7, tripOps8, tripOps9, tripOps10]
abbrev postI : List (List (HloOp τ sig (Elt F))) := [postOps0, postOps1, postOps2, postOps3, postOps4, postOps5, postOps6, postOps7]

/-- They are plain host operations. -/
theorem hpre : Plain (preI (F := F)) := .cons preOps0_sub (hf := List.forall_iff_forall_mem.mp preOps0_fresh) (.cons preOps1_sub (hf := List.forall_iff_forall_mem.mp preOps1_fresh) (.cons preOps2_sub (hf := List.forall_iff_forall_mem.mp preOps2_fresh) (.nil)))
theorem hbodyI : Plain (bodyI (F := F)) := .cons tripOps0_sub (hf := List.forall_iff_forall_mem.mp tripOps0_fresh) (.cons tripOps1_sub (hf := List.forall_iff_forall_mem.mp tripOps1_fresh) (.cons tripOps2_sub (hf := List.forall_iff_forall_mem.mp tripOps2_fresh) (.cons tripOps3_sub (hf := List.forall_iff_forall_mem.mp tripOps3_fresh) (.cons tripOps4_sub (hf := List.forall_iff_forall_mem.mp tripOps4_fresh) (.cons tripOps5_sub (hf := List.forall_iff_forall_mem.mp tripOps5_fresh) (.cons tripOps6_sub (hf := List.forall_iff_forall_mem.mp tripOps6_fresh) (.cons tripOps7_sub (hf := List.forall_iff_forall_mem.mp tripOps7_fresh) (.cons tripOps8_sub (hf := List.forall_iff_forall_mem.mp tripOps8_fresh) (.cons tripOps9_sub (hf := List.forall_iff_forall_mem.mp tripOps9_fresh) (.cons tripOps10_sub (hf := List.forall_iff_forall_mem.mp tripOps10_fresh) (.nil)))))))))))
theorem hpost : Plain (postI (F := F)) := .cons postOps0_sub (hf := List.forall_iff_forall_mem.mp postOps0_fresh) (.cons postOps1_sub (hf := List.forall_iff_forall_mem.mp postOps1_fresh) (.cons postOps2_sub (hf := List.forall_iff_forall_mem.mp postOps2_fresh) (.cons postOps3_sub (hf := List.forall_iff_forall_mem.mp postOps3_fresh) (.cons postOps4_sub (hf := List.forall_iff_forall_mem.mp postOps4_fresh) (.cons postOps5_sub (hf := List.forall_iff_forall_mem.mp postOps5_fresh) (.cons postOps6_sub (hf := List.forall_iff_forall_mem.mp postOps6_fresh) (.cons postOps7_sub (hf := List.forall_iff_forall_mem.mp postOps7_fresh) (.nil))))))))

/-- The arrays the condition writes. -/
abbrev condOps_W : List (Ref sig .tc) := [main_while0c_c_19, main_while0c_v44]
theorem condOps_writes : (condOps : List (HloOp τ sig (Elt F))).Forall fun op => op.writes ⊆ (condOps_W.map (Proc.devRef (τ := τ) .tc)).toFinset :=
  StableHlo.forall_writes_sub_of_map rfl

/-- The condition and the trip's stretches but the last do not write the counter. -/
theorem trip_front_keeps (V : Valuation τ sig (Elt F)) (b : Ref sig .tc)
    (h : b ∉ condOps_W ∧ b ∉ tripOps0_W ∧ b ∉ tripOps1_W ∧ b ∉ tripOps2_W ∧ b ∉ tripOps3_W ∧ b ∉ tripOps4_W ∧ b ∉ tripOps5_W ∧ b ∉ tripOps6_W ∧ b ∉ tripOps7_W ∧ b ∉ tripOps8_W ∧ b ∉ tripOps9_W) :
    afterL [tripOps0, tripOps1, tripOps2, tripOps3, tripOps4, tripOps5, tripOps6, tripOps7, tripOps8, tripOps9] (after condOps V) (Proc.devRef .tc b) = V (Proc.devRef .tc b) := by
  obtain ⟨hc, h0, h1, h2, h3, h4, h5, h6, h7, h8, h9⟩ := h
  simp only [afterL_cons, afterL_nil]
  rw [after_of_writes_sub _ _ tripOps9_writes h9, after_of_writes_sub _ _ tripOps8_writes h8, after_of_writes_sub _ _ tripOps7_writes h7, after_of_writes_sub _ _ tripOps6_writes h6, after_of_writes_sub _ _ tripOps5_writes h5, after_of_writes_sub _ _ tripOps4_writes h4, after_of_writes_sub _ _ tripOps3_writes h3, after_of_writes_sub _ _ tripOps2_writes h2, after_of_writes_sub _ _ tripOps1_writes h1, after_of_writes_sub _ _ tripOps0_writes h0, after_of_writes_sub _ _ condOps_writes hc]

variable (m : (ℓ : Loc nD τ sig) → Buf (Elt F) ℓ) (ρ : Dev nD → PrngReg)

/-- Every array's contents before the `k`-th run of the condition, counted from 0. -/
abbrev atK (k : ℕ) (c : Dev nD) : Valuation τ sig (Elt F) := atTrip condOps bodyI (entryContents preI m) k c

set_option maxRecDepth 100000 in
/-- The trip's last stretch leaves the counter one up. -/
theorem ctr_step (X : Valuation τ sig (Elt F)) :
    after tripOps10 X (Proc.devRef .tc main_v6_1) = addi (X (Proc.devRef .tc main_v6_1)) (constantI S_ 32 1#32) := by
  after_results
  rfl

/-- The counter is zero at the loop's entry. -/
theorem ctr_entry (c : Dev nD) : entryContents preI m c (Proc.devRef .tc main_v6_1) = fun _ => (0#32 : BitVec 32) := by
  simp only [entryContents, afterL_cons, afterL_nil]
  after_reads_simp
  rfl

/-- Before the `k`-th condition the counter is `k`. -/
theorem atK_ctr (c : Dev nD) : ∀ k, atK m k c (Proc.devRef .tc main_v6_1) = fun _ => Scf.iv 0#32 1#32 k
  | 0 => by rw [show atK m 0 c = entryContents preI m c from rfl, ctr_entry, Scf.iv_zero]
  | k + 1 => by
    rw [show atK m (k + 1) c = after tripOps10 (afterL [tripOps0, tripOps1, tripOps2, tripOps3, tripOps4, tripOps5, tripOps6, tripOps7, tripOps8, tripOps9] (after condOps (atK m k c))) from rfl,
      ctr_step, trip_front_keeps _ _ (by decide +kernel), atK_ctr c k, Scf.iv_succ]
    rfl

set_option backward.isDefEq.respectTransparency.types false in
/-- The loop's condition holds exactly before the first 100 trips. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v6_1 HostLoop.idx0)
        (HloOp.result _ (atK m k c) main_while0c_c_19 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- Every weakly fair execution terminates with every array at what the stretches and 100 trips make of it. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

/-- An array no stretch writes keeps its launch contents up to every condition. -/
theorem atK_keeps (b : Ref sig .tc) (hp : b ∉ preOps0_W ∧ b ∉ preOps1_W ∧ b ∉ preOps2_W) (hl : b ∉ tripOps10_W)
    (h : b ∉ condOps_W ∧ b ∉ tripOps0_W ∧ b ∉ tripOps1_W ∧ b ∉ tripOps2_W ∧ b ∉ tripOps3_W ∧ b ∉ tripOps4_W ∧ b ∉ tripOps5_W ∧ b ∉ tripOps6_W ∧ b ∉ tripOps7_W ∧ b ∉ tripOps8_W ∧ b ∉ tripOps9_W) (c : Dev nD) :
    ∀ k, atK m k c (Proc.devRef .tc b) = m ((c.tc : Thread nD τ).loc b)
  | 0 => by
    obtain ⟨h0, h1, h2⟩ := hp
    rw [show atK m 0 c = entryContents preI m c from rfl]
    simp only [entryContents, afterL_cons, afterL_nil]
    rw [after_of_writes_sub _ _ preOps2_writes h2, after_of_writes_sub _ _ preOps1_writes h1, after_of_writes_sub _ _ preOps0_writes h0]
  | k + 1 => by
    rw [show atK m (k + 1) c = after tripOps10 (afterL [tripOps0, tripOps1, tripOps2, tripOps3, tripOps4, tripOps5, tripOps6, tripOps7, tripOps8, tripOps9] (after condOps (atK m k c))) from rfl,
      after_of_writes_sub _ _ tripOps10_writes hl, trip_front_keeps _ _ h, atK_keeps b ⟨hp.1, hp.2.1, hp.2.2⟩ hl h c k]

/-- An array no stretch after the loop writes keeps its contents there. -/
theorem post_keeps (V : Valuation τ sig (Elt F)) (b : Ref sig .tc)
    (h : b ∉ postOps0_W ∧ b ∉ postOps1_W ∧ b ∉ postOps2_W ∧ b ∉ postOps3_W ∧ b ∉ postOps4_W ∧ b ∉ postOps5_W ∧ b ∉ postOps6_W ∧ b ∉ postOps7_W) :
    afterL postI V (Proc.devRef .tc b) = V (Proc.devRef .tc b) := by
  obtain ⟨h0, h1, h2, h3, h4, h5, h6, h7⟩ := h
  simp only [afterL_cons, afterL_nil]
  rw [after_of_writes_sub _ _ postOps7_writes h7, after_of_writes_sub _ _ postOps6_writes h6, after_of_writes_sub _ _ postOps5_writes h5, after_of_writes_sub _ _ postOps4_writes h4, after_of_writes_sub _ _ postOps3_writes h3, after_of_writes_sub _ _ postOps2_writes h2, after_of_writes_sub _ _ postOps1_writes h1, after_of_writes_sub _ _ postOps0_writes h0]

/-- The arguments end as they were at launch. -/
theorem final_arg0 (c : Dev nD) : finalContents condOps preI bodyI postI 100 m c (Proc.devRef .tc main_arg0) = m ((c.tc : Thread nD τ).loc main_arg0) :=
  (post_keeps _ _ (by decide +kernel)).trans ((after_of_writes_sub _ _ condOps_writes (by decide +kernel)).trans
    (atK_keeps m main_arg0 (by decide +kernel) (by decide +kernel) (by decide +kernel) c 100))
theorem final_arg1 (c : Dev nD) : finalContents condOps preI bodyI postI 100 m c (Proc.devRef .tc main_arg1) = m ((c.tc : Thread nD τ).loc main_arg1) :=
  (post_keeps _ _ (by decide +kernel)).trans ((after_of_writes_sub _ _ condOps_writes (by decide +kernel)).trans
    (atK_keeps m main_arg1 (by decide +kernel) (by decide +kernel) (by decide +kernel) c 100))

/-- The results of the run, and its arguments unchanged. -/
theorem run_results : θ_run (defs (F := F)) (onTc (τ := τ) (main (F := F))) ⟨m, fun _ => 0, ρ⟩ fun r => ∀ c : Dev nD,
      r.2.mem ((c.tc : Thread nD τ).loc main_v41) = afterL postI (after condOps (atK m 100 c)) (Proc.devRef .tc main_v41)
      ∧ r.2.mem ((c.tc : Thread nD τ).loc main_v42) = afterL postI (after condOps (atK m 100 c)) (Proc.devRef .tc main_v42)
      ∧ r.2.mem ((c.tc : Thread nD τ).loc main_v43) = afterL postI (after condOps (atK m 100 c)) (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v41 rfl, h c main_v42 rfl, h c main_v43 rfl,
    (h c main_arg0 rfl).trans (final_arg0 m c), (h c main_arg1 rfl).trans (final_arg1 m c)⟩) (run_fold m ρ)

/-- The run changes no argument and leaves every counter at zero: the program has no counters. -/
theorem frame : θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0 :=
  (θ_run defs _ _).mono (fun r h => ⟨fun c => (h c).2.2.2, sem_eq_zero_of_no_sems (by decide) r.2⟩) (run_results m ρ)

end Cert.ReferenceIdeal.Gen

end
-- ==== Proof.Greedy.lean ====
module

public import Idealize.ShloMosaic.PureOps.Ideal.Laws

@[expose] public section

/-!
# Greedy suppression, stated on plain functions

A row of `n` scores is a function `Fin n → EReal`. One round picks the first position holding the greatest
score (`first`), and lowers that position and every position whose box overlaps the picked box too much
(`step`). Both programs are shown to run these rounds.
-/

noncomputable section

namespace Cert.Nms

open Idealize.ShloMosaic

/-! ## The first position of the greatest score -/

/-- A nonempty row has a first position holding its greatest value. -/
theorem exists_first {n : ℕ} [NeZero n] (s : Fin n → EReal) :
    ∃ i, (∀ j, s j ≤ s i) ∧ ∀ j, j < i → s j < s i := by
  classical
  obtain ⟨i₀, h₀⟩ := Finite.exists_max s
  let A : Finset (Fin n) := Finset.univ.filter fun i => ∀ j, s j ≤ s i
  have hA : A.Nonempty := ⟨i₀, by simp [A, h₀]⟩
  have hm := A.min'_mem hA
  have hmax : ∀ j, s j ≤ s (A.min' hA) := by simpa [A] using hm
  refine ⟨A.min' hA, hmax, fun j hj => lt_of_le_of_ne (hmax j) fun e => ?_⟩
  have hjA : j ∈ A := by simp [A]; intro k; rw [e]; exact hmax k
  exact absurd (A.min'_le j hjA) (not_le.mpr hj)

/-- The first position holding the greatest value of a row. -/
def first {n : ℕ} [NeZero n] (s : Fin n → EReal) : Fin n := (exists_first s).choose

/-- No value of the row is above the one at its first greatest position. -/
theorem le_first {n : ℕ} [NeZero n] (s : Fin n → EReal) (j : Fin n) : s j ≤ s (first s) :=
  (exists_first s).choose_spec.1 j

/-- Every value before the first greatest position is strictly below it. -/
theorem lt_first {n : ℕ} [NeZero n] (s : Fin n → EReal) (j : Fin n) (h : j < first s) : s j < s (first s) :=
  (exists_first s).choose_spec.2 j h

/-- A position of the greatest value is not before the first one. -/
theorem first_le {n : ℕ} [NeZero n] (s : Fin n → EReal) (j : Fin n) (h : s j = s (first s)) : first s ≤ j :=
  not_lt.mp fun hj => (lt_first s j hj).ne h

/-- A position whose value is greatest and no later than any other such position is the first one. -/
theorem eq_first {n : ℕ} [NeZero n] (s : Fin n → EReal) (i : Fin n) (hmax : ∀ j, s j ≤ s i)
    (hmin : ∀ j, s j = s i → i ≤ j) : i = first s :=
  le_antisymm (hmin _ (le_antisymm (hmax _) (le_first s i)))
    (first_le s i (le_antisymm (le_first s i) (hmax _)))

/-- A maximum over a row, from the least value, is the value at its first greatest position. -/
theorem fold_max_eq {n : ℕ} [NeZero n] (s : Fin n → EReal) : (Finset.univ : Finset (Fin n)).fold max ⊥ s = s (first s) := by
  apply le_antisymm
  · rw [Finset.fold_max_le]
    exact ⟨bot_le, fun j _ => le_first s j⟩
  · rw [Finset.le_fold_max]
    exact .inr ⟨first s, Finset.mem_univ _, le_rfl⟩

/-! ## Folding pairs of a value and a position -/

/-- A small number read back from its signed 32-bit word. -/
theorem toInt_ofNat {k : ℕ} (h : k < 2 ^ 31) : (BitVec.ofNat 32 k).toInt = k := by
  rw [BitVec.toInt_eq_toNat_of_lt] <;> rw [BitVec.toNat_ofNat, Nat.mod_eq_of_lt] <;> omega

/-- The first pair wins over the second: a greater value, or the same value at no later position. -/
def Wins (a b : EReal × BitVec 32) : Prop := b.1 < a.1 ∨ b.1 = a.1 ∧ a.2.toInt ≤ b.2.toInt

theorem Wins.refl (a : EReal × BitVec 32) : Wins a a := .inr ⟨rfl, le_rfl⟩

theorem Wins.trans {a b c : EReal × BitVec 32} (h : Wins a b) (h' : Wins b c) : Wins a c := by
  rcases h with h | ⟨h, g⟩ <;> rcases h' with h' | ⟨h', g'⟩
  · exact .inl (h'.trans h)
  · exact .inl (h' ▸ h)
  · exact .inl (h ▸ h')
  · exact .inr ⟨h'.trans h, g.trans g'⟩

/-- A fold whose every step keeps a winning one of the two pairs ends at a pair it met that wins over all. -/
theorem foldl_wins (f : EReal × BitVec 32 → EReal × BitVec 32 → EReal × BitVec 32)
    (hf : ∀ a b, (f a b = a ∧ Wins a b) ∨ (f a b = b ∧ Wins b a)) :
    ∀ (l : List (EReal × BitVec 32)) (a : EReal × BitVec 32),
      (l.foldl f a = a ∨ l.foldl f a ∈ l) ∧ Wins (l.foldl f a) a ∧ ∀ p ∈ l, Wins (l.foldl f a) p
  | [], a => ⟨.inl rfl, .refl a, by simp⟩
  | b :: l, a => by
    obtain ⟨hm, hw, hl⟩ := foldl_wins f hf l (f a b)
    rw [List.foldl_cons]
    rcases hf a b with ⟨e, w⟩ | ⟨e, w⟩ <;> rw [e] at hm hw hl ⊢
    · refine ⟨hm.imp_right (List.mem_cons_of_mem _), hw, fun p hp => ?_⟩
      rcases List.mem_cons.mp hp with rfl | hp
      · exact hw.trans w
      · exact hl p hp
    · refine ⟨.inr ?_, hw.trans w, fun p hp => ?_⟩
      · rcases hm with hm | hm
        · rw [hm]; exact List.mem_cons_self ..
        · exact List.mem_cons_of_mem _ hm
      · rcases List.mem_cons.mp hp with rfl | hp
        · exact hw
        · exact hl p hp

/-- Such a fold over the pairs of a row, each value with its position, from the least value at position 0,
    ends at the first greatest position. -/
theorem foldl_first {n : ℕ} [NeZero n] (hn : n < 2 ^ 31) (s : Fin n → EReal)
    (f : EReal × BitVec 32 → EReal × BitVec 32 → EReal × BitVec 32)
    (hf : ∀ a b, (f a b = a ∧ Wins a b) ∨ (f a b = b ∧ Wins b a))
    (l : List (EReal × BitVec 32)) (hl : ∀ p, p ∈ l ↔ ∃ k : Fin n, p = (s k, BitVec.ofNat 32 k.val)) :
    (l.foldl f (⊥, 0#32)).2 = BitVec.ofNat 32 (first s).val := by
  obtain ⟨hm, hw, hall⟩ := foldl_wins f hf l (⊥, 0#32)
  have hint : ∀ k : Fin n, (BitVec.ofNat 32 k.val).toInt = k.val := fun k => toInt_ofNat (k.isLt.trans hn)
  have hmem : ∃ k : Fin n, l.foldl f (⊥, 0#32) = (s k, BitVec.ofNat 32 k.val) := by
    rcases hm with hm | hm
    · refine ⟨0, ?_⟩
      have h0 := hall _ ((hl _).mpr ⟨0, rfl⟩)
      rw [hm] at h0 ⊢
      rcases h0 with h0 | ⟨h0, _⟩
      · exact absurd h0 not_lt_bot
      · have h0' : s 0 = ⊥ := h0
        rw [h0']; rfl
    · exact (hl _).mp hm
  obtain ⟨k, hk⟩ := hmem
  rw [hk] at hall ⊢
  have hk' : k = first s := by
    apply eq_first
    · intro j
      rcases hall _ ((hl _).mpr ⟨j, rfl⟩) with h | ⟨h, _⟩
      · exact h.le
      · exact h.le
    · intro j hj
      rcases hall _ ((hl _).mpr ⟨j, rfl⟩) with h | ⟨_, h⟩
      · exact absurd hj h.ne
      · simp only [hint] at h
        exact_mod_cast h
  rw [hk']

/-! ## One round of suppression -/

/-- The score of a box no longer in play. -/
abbrev low : EReal := Ideal.ofBits .f32 0xF149F2CA#32

/-- The bound below which a picked score is no detection. -/
abbrev bound : EReal := Ideal.ofBits .f32 0xF0C9F2CA#32

/-- The least score that counts. -/
abbrev thr : EReal := Ideal.ofBits .f32 0x3C23D70A#32

theorem low_le_thr : low ≤ thr := by
  simp only [low, thr]
  simp [Ideal.ofBits, Ideal.ieee, -EReal.coe_mul, -EReal.coe_neg]
  norm_num

theorem low_le_bound : low ≤ bound := by
  simp only [low, bound]
  simp [Ideal.ofBits, Ideal.ieee, -EReal.coe_mul, -EReal.coe_neg]
  norm_num

/-- A box's area from its corners `(x₁, y₁, x₂, y₂)`, an empty side counting as 0. -/
def area (q : Fin 4 → EReal) : EReal := max (q 2 - q 0) 0 * max (q 3 - q 1) 0

/-- The area two boxes share. -/
def inter (p q : Fin 4 → EReal) : EReal :=
  max (min (p 2) (q 2) - max (p 0) (q 0)) 0 * max (min (p 3) (q 3) - max (p 1) (q 1)) 0

/-- The shared area over the area of the union, the latter kept from 0. -/
def iou (p q : Fin 4 → EReal) : EReal :=
  Ideal.div (inter p q) (max (area p + area q - inter p q) (Ideal.ofBits .f32 0x322BCC77#32))

/-- One round: the picked position and all that overlap it by more than half are lowered. -/
def step {n : ℕ} [NeZero n] (box : Fin n → Fin 4 → EReal) (s : Fin n → EReal) (j : Fin n) : EReal :=
  open Classical in
  if j = first s then low else if Ideal.ofBits .f32 0x3F000000#32 < iou (box (first s)) (box j) then low else s j

/-- The scores after `k` rounds. -/
def rounds {n : ℕ} [NeZero n] (box : Fin n → Fin 4 → EReal) (s₀ : Fin n → EReal) : ℕ → Fin n → EReal
  | 0 => s₀
  | k + 1 => step box (rounds box s₀ k)

/-- The scores a row of best class scores starts with. -/
def start {n : ℕ} (c : Fin n → EReal) (j : Fin n) : EReal := open Classical in if thr < c j then c j else low

theorem low_le_start {n : ℕ} (c : Fin n → EReal) (j : Fin n) : low ≤ start c j := by
  unfold start
  split
  · exact low_le_thr.trans (le_of_lt (by assumption))
  · exact le_rfl

/-- No score is ever below the lowered one. -/
theorem low_le_rounds {n : ℕ} [NeZero n] (box : Fin n → Fin 4 → EReal) (c : Fin n → EReal) :
    ∀ k j, low ≤ rounds box (start c) k j
  | 0, j => low_le_start c j
  | k + 1, j => by
    simp only [rounds, step]
    split
    · exact le_rfl
    · split
      · exact le_rfl
      · exact low_le_rounds box c k j

/-- A score is lowered or still the box's best class score. -/
theorem rounds_or {n : ℕ} [NeZero n] (box : Fin n → Fin 4 → EReal) (c : Fin n → EReal) :
    ∀ k j, rounds box (start c) k j = low ∨ rounds box (start c) k j = c j
  | 0, j => by
    simp only [rounds, start]
    split
    · exact .inr rfl
    · exact .inl rfl
  | k + 1, j => by
    simp only [rounds, step]
    split
    · exact .inl rfl
    · split
      · exact .inl rfl
      · exact rounds_or box c k j

/-- A picked score above the bound is the box's best class score. -/
theorem rounds_eq_of_bound_lt {n : ℕ} [NeZero n] (box : Fin n → Fin 4 → EReal) (c : Fin n → EReal) (k : ℕ) (j : Fin n)
    (h : bound < rounds box (start c) k j) : rounds box (start c) k j = c j :=
  (rounds_or box c k j).resolve_left fun e => absurd (e ▸ h) (not_lt.mpr low_le_bound)

end Cert.Nms

end
-- ==== Proof.IdealPick.lean ====
/- One trip of the greedy loop over a row of 20000 values laid out in 157 rows of 128 lanes: what the body's reductions
   and selects are, at the ideal values. -/
module

public import proofs.«01_k».proof.Proof.Gen.KernelIdeal.Skeleton
public import proofs.«01_k».proof.Proof.Greedy
public import Idealize.ShloMosaic.Lib.Pointwise

@[expose] public section

set_option maxRecDepth 16384

noncomputable section

namespace Cert.KernelIdeal.Value

open Idealize.ShloMosaic Idealize.ShloMosaic.TcCoe Cert.KernelIdeal Cert.KernelIdeal.Gen Cert.Nms

/-! ## A row laid out in rows of 128 -/

/-- `s` holds the row `f`, position `128 r + l` at row `r` and lane `l`, and `d` past its end. -/
def Spread {α : Type} (s : S157x128.Idx → α) (f : Fin 20000 → α) (d : α) : Prop :=
  ∀ (r : Fin 157) (l : Fin 128), s (ix2 r l) = if h : 128 * r.val + l.val < 20000 then f ⟨_, h⟩ else d

/-- The row of a position. -/
def rowOf (j : Fin 20000) : Fin 157 := ⟨j.val / 128, by omega⟩

/-- The lane of a position. -/
def laneOf (j : Fin 20000) : Fin 128 := ⟨j.val % 128, by omega⟩

theorem rowOf_laneOf (j : Fin 20000) : 128 * (rowOf j).val + (laneOf j).val = j.val := Nat.div_add_mod ..

/-- A row and lane are those of a position exactly when they add up to it. -/
theorem eq_rowOf {r : Fin 157} {l : Fin 128} {j : Fin 20000} (h : 128 * r.val + l.val = j.val) : r = rowOf j ∧ l = laneOf j := by
  constructor <;> apply Fin.ext <;> simp only [rowOf, laneOf] <;> omega

section Spread
variable {α : Type} {s : S157x128.Idx → α} {f : Fin 20000 → α} {d : α}

theorem Spread.inside (hs : Spread s f d) (r : Fin 157) (l : Fin 128) (h : 128 * r.val + l.val < 20000) :
    s (ix2 r l) = f ⟨_, h⟩ := (hs r l).trans (dif_pos h)

theorem Spread.outside (hs : Spread s f d) (r : Fin 157) (l : Fin 128) (h : ¬ 128 * r.val + l.val < 20000) :
    s (ix2 r l) = d := (hs r l).trans (dif_neg h)

/-- The row at a position, read where it lies. -/
theorem Spread.at (hs : Spread s f d) (j : Fin 20000) : s (ix2 (rowOf j) (laneOf j)) = f j := by
  rw [hs.inside _ _ (by rw [rowOf_laneOf]; exact j.isLt)]
  congr 1
  exact Fin.ext (rowOf_laneOf j)

end Spread

/-! ## Folds -/

/-- A signed minimum that is met, is no greater than any value and than the first one, is the fold's result. -/
theorem fold_minsi_eq {ι : Type} (S : Finset ι) (g : ι → BitVec 32) (b v : BitVec 32) (hex : ∃ i ∈ S, g i = v)
    (hmin : ∀ i ∈ S, v.toInt ≤ (g i).toInt) (hb : v.toInt ≤ b.toInt) : S.fold IntOp.minsi b g = v := by
  classical
  have key : ∀ T : Finset ι, (T.fold IntOp.minsi b g = b ∨ ∃ i ∈ T, T.fold IntOp.minsi b g = g i)
      ∧ ∀ i ∈ T, (T.fold IntOp.minsi b g).toInt ≤ (g i).toInt := by
    intro T
    induction T using Finset.induction_on with
    | empty => exact ⟨.inl (Finset.fold_empty ..), fun i hi => absurd hi (Finset.notMem_empty i)⟩
    | insert a T ha ih =>
      rw [Finset.fold_insert ha]
      obtain ⟨hm, hl⟩ := ih
      generalize T.fold IntOp.minsi b g = w at hm hl ⊢
      unfold IntOp.minsi
      simp only [BitVec.slt, decide_eq_true_eq]
      split
      · next h =>
        refine ⟨.inr ⟨a, Finset.mem_insert_self _ _, rfl⟩, fun i hi => ?_⟩
        rcases Finset.mem_insert.mp hi with rfl | hi
        · exact le_rfl
        · exact h.le.trans (hl i hi)
      · next h =>
        refine ⟨hm.imp_right fun ⟨i, hi, e⟩ => ⟨i, Finset.mem_insert_of_mem hi, e⟩, fun i hi => ?_⟩
        rcases Finset.mem_insert.mp hi with rfl | hi
        · exact not_lt.mp h
        · exact hl i hi
  obtain ⟨i, hi, e⟩ := hex
  obtain ⟨hm, hl⟩ := key S
  apply BitVec.eq_of_toInt_eq
  refine le_antisymm (e ▸ hl i hi) ?_
  rcases hm with hm | ⟨k, hk, hm⟩
  · rw [hm]; exact hb
  · rw [hm]; exact hmin k hk

/-- A sum of words all but one of which are zero is that one. -/
theorem fold_addi_eq {ι : Type} (S : Finset ι) (g : ι → BitVec 32) (i : ι) (hi : i ∈ S) (h : ∀ k ∈ S, k ≠ i → g k = 0#32) :
    S.fold IntOp.addi 0#32 g = g i := by
  classical
  have zero : ∀ T : Finset ι, (∀ k ∈ T, g k = 0#32) → T.fold IntOp.addi 0#32 g = 0#32 := by
    intro T
    induction T using Finset.induction_on with
    | empty => intro _; exact Finset.fold_empty ..
    | insert a T ha ih =>
      intro hT
      rw [Finset.fold_insert ha, hT a (Finset.mem_insert_self _ _), ih fun k hk => hT k (Finset.mem_insert_of_mem hk)]
      rfl
  rw [← Finset.insert_erase hi, Finset.fold_insert (Finset.notMem_erase _ _), zero]
  · show g i + 0#32 = g i
    exact BitVec.add_zero _
  · intro k hk
    exact h k (Finset.mem_of_mem_erase hk) (Finset.ne_of_mem_erase hk)

/-! ## The pick -/

theorem ofBits_least : Ideal.ofBits .f32 0xFF800000#32 = (⊥ : EReal) := by
  simp [Ideal.ofBits, Ideal.ieee]

/-- Row `r`, lane `l` as a flat position, in a word. -/
theorem flat_at (r : Fin 157) (l : Fin 128) : k1_pay24 (ix2 r l) = BitVec.ofNat 32 (128 * r.val + l.val) := by
  pointwise [k1_pay24]
  show BitVec.ofNat 32 r.val * 128#32 + BitVec.ofNat 32 l.val = _
  rw [Nat.mul_comm, BitVec.ofNat_add, BitVec.ofNat_mul]

/-- The signed minimum over the rows and lanes, as the body computes it. -/
def minWord (g : IVec S157x128 32) : BitVec 32 :=
  extractAt ![0, 0, 0] (shapeCast S1x1x1 (multiReductionI .minsi [1, 2] S1 (shapeCast S1x157x128 g shapeCasts_S157x128_S1x157x128) 2147483647#32 reduces_S1x157x128_S1 rfl) shapeCasts_S1_S1x1x1) inpos_S1x1x1_p0_0_0

theorem minWord_eq (g : IVec S157x128 32) :
    minWord g = (Finset.univ : Finset (Fin 157 × Fin 128)).fold IntOp.minsi 2147483647#32 fun p => g (ix2 p.1 p.2) := by
  pointwise [minWord]

/-- The flat positions where the largest score stands, a large word elsewhere. -/
def bestPos (g : IVec S157x128 32) (s : FVec Ideal S157x128 .f32) : IVec S157x128 32 :=
  select (cmpf .oeq s (broadcast S157x128 (k1_pay5 (F := Ideal) s))) g (broadcast S157x128 1073741824#32)

theorem bestPos_at (g : IVec S157x128 32) (s : FVec Ideal S157x128 .f32) (r : Fin 157) (l : Fin 128) :
    bestPos g s (ix2 r l) = open Classical in if s (ix2 r l) = k1_pay5 (F := Ideal) s then g (ix2 r l) else 1073741824#32 := by
  pointwise [bestPos]

theorem flag_eq (g : IVec S157x128 32) (s : FVec Ideal S157x128 .f32) :
    k1_pay6 (F := Ideal) g s = cmpi .eq g (broadcast S157x128 (minWord (bestPos g s))) := rfl

theorem flag_at (g : IVec S157x128 32) (s : FVec Ideal S157x128 .f32) (r : Fin 157) (l : Fin 128) :
    k1_pay6 (F := Ideal) g s (ix2 r l) = IntOp.cmpi .eq (g (ix2 r l)) (minWord (bestPos g s)) := by
  rw [flag_eq]
  generalize minWord (bestPos g s) = w
  rfl

section Pick
variable {s : FVec Ideal S157x128 .f32} {f : Fin 20000 → EReal} (hs : Spread s f low) (hf : ∀ j, low ≤ f j)
include hs hf

theorem le_best (r : Fin 157) (l : Fin 128) : s (ix2 r l) ≤ f (first f) := by
  by_cases h : 128 * r.val + l.val < 20000
  · rw [hs.inside r l h]; exact le_first f _
  · rw [hs.outside r l h]; exact hf _

/-- The largest standing score. -/
theorem best_eq : (k1_pay5 (F := Ideal) s : EReal) = f (first f) := by
  pointwise [k1_pay5]
  rw [ofBits_least]
  apply le_antisymm
  · rw [Finset.fold_max_le]
    exact ⟨bot_le, fun p _ => le_best hs hf p.1 p.2⟩
  · rw [Finset.le_fold_max]
    exact .inr ⟨(rowOf (first f), laneOf (first f)), Finset.mem_univ _, (hs.at (first f)).ge⟩

/-- The first position holding the largest standing score, in a word. -/
theorem minWord_pick : minWord (bestPos k1_pay24 s) = BitVec.ofNat 32 (first f).val := by
  have hlt : (first f).val < 20000 := (first f).isLt
  have big : (1073741824#32 : BitVec 32).toInt = 1073741824 := rfl
  have top : (2147483647#32 : BitVec 32).toInt = 2147483647 := rfl
  rw [minWord_eq]
  apply fold_minsi_eq
  · refine ⟨(rowOf (first f), laneOf (first f)), Finset.mem_univ _, ?_⟩
    dsimp only
    rw [bestPos_at, if_pos ((hs.at _).trans (best_eq hs hf).symm), flat_at, rowOf_laneOf]
  · intro p _
    have hr := p.1.isLt
    have hl := p.2.isLt
    rw [toInt_ofNat (by omega), bestPos_at]
    split
    · next h =>
      rw [flat_at, toInt_ofNat (by omega)]
      by_cases hp : 128 * p.1.val + p.2.val < 20000
      · have e := (hs.inside _ _ hp).symm.trans (h.trans (best_eq hs hf))
        have := first_le f _ e
        exact_mod_cast (Fin.le_def.mp this)
      · exact_mod_cast (by omega : (first f).val ≤ 128 * p.1.val + p.2.val)
    · rw [big]; omega
  · rw [toInt_ofNat (by omega), top]; omega

/-- The flag of the picked position: the first one holding the largest standing score. -/
theorem isPick_at (r : Fin 157) (l : Fin 128) :
    k1_pay6 (F := Ideal) k1_pay24 s (ix2 r l) = BitVec.ofBool (decide (128 * r.val + l.val = (first f).val)) := by
  have hlt : (first f).val < 20000 := (first f).isLt
  have hr := r.isLt
  have hl := l.isLt
  rw [flag_at, minWord_pick hs hf, flat_at]
  show BitVec.ofBool (BitVec.ofNat 32 _ == BitVec.ofNat 32 _) = _
  congr 1
  rw [beq_eq_decide]
  apply decide_eq_decide.mpr
  constructor
  · intro h
    have := congrArg BitVec.toNat h
    rw [BitVec.toNat_ofNat, BitVec.toNat_ofNat, Nat.mod_eq_of_lt (by omega), Nat.mod_eq_of_lt (by omega)] at this
    exact this
  · intro h; rw [h]

theorem select_pick {α : Type} (r : Fin 157) (l : Fin 128) (x y : α) :
    Scalar.select (k1_pay6 (F := Ideal) k1_pay24 s (ix2 r l)) x y = if 128 * r.val + l.val = (first f).val then x else y := by
  rw [isPick_at hs hf]
  by_cases h : 128 * r.val + l.val = (first f).val <;> simp [Scalar.select, h]

/-- A plane summed under the flag is its value at the picked position. -/
theorem plane_sum {x : FVec Ideal S157x128 .f32} {g : Fin 20000 → EReal} {d : EReal} (hx : Spread x g d) :
    (∑ r : Fin 157, ∑ l : Fin 128, Scalar.select (k1_pay6 (F := Ideal) k1_pay24 s (ix2 r l)) (x (ix2 r l)) (0 : EReal)) = g (first f) := by
  simp only [select_pick hs hf]
  rw [Finset.sum_eq_single (rowOf (first f)), Finset.sum_eq_single (laneOf (first f)), if_pos (rowOf_laneOf _)]
  · exact hx.at _
  · intro l _ hl
    exact if_neg fun e => hl (eq_rowOf e).2
  · intro h; exact absurd (Finset.mem_univ _) h
  · intro r _ hr
    exact Finset.sum_eq_zero fun l _ => if_neg fun e => hr (eq_rowOf e).1
  · intro h; exact absurd (Finset.mem_univ _) h

theorem pick7 {x : FVec Ideal S157x128 .f32} {g : Fin 20000 → EReal} {d : EReal} (hx : Spread x g d) :
    (k1_pay7 (F := Ideal) x k1_pay24 s : EReal) = g (first f) := by
  pointwise [k1_pay7]
  exact plane_sum hs hf hx
theorem pick8 {x : FVec Ideal S157x128 .f32} {g : Fin 20000 → EReal} {d : EReal} (hx : Spread x g d) :
    (k1_pay8 (F := Ideal) x k1_pay24 s : EReal) = g (first f) := by
  pointwise [k1_pay8]
  exact plane_sum hs hf hx
theorem pick9 {x : FVec Ideal S157x128 .f32} {g : Fin 20000 → EReal} {d : EReal} (hx : Spread x g d) :
    (k1_pay9 (F := Ideal) x k1_pay24 s : EReal) = g (first f) := by
  pointwise [k1_pay9]
  exact plane_sum hs hf hx
theorem pick10 {x : FVec Ideal S157x128 .f32} {g : Fin 20000 → EReal} {d : EReal} (hx : Spread x g d) :
    (k1_pay10 (F := Ideal) x k1_pay24 s : EReal) = g (first f) := by
  pointwise [k1_pay10]
  exact plane_sum hs hf hx

/-- The labels summed under the flag are the label at the picked position. -/
theorem pickLabel {x : IVec S157x128 32} {g : Fin 20000 → BitVec 32} {d : BitVec 32} (hx : Spread x g d) :
    extractAt ![0, 0, 0] (k1_pay11 (F := Ideal) x k1_pay24 s) inpos_S1x1x1_p0_0_0 = g (first f) := by
  pointwise [k1_pay11]
  rw [fold_addi_eq _ _ (rowOf (first f), laneOf (first f)) (Finset.mem_univ _)]
  · dsimp only
    rw [select_pick hs hf, if_pos (rowOf_laneOf _)]
    exact hx.at _
  · rintro ⟨r, l⟩ _ hne
    dsimp only
    rw [select_pick hs hf]
    refine if_neg fun e => hne ?_
    rw [(eq_rowOf e).1, (eq_rowOf e).2]

end Pick

end Cert.KernelIdeal.Value

end
-- ==== Proof.IdealTrip.lean ====
/- The greedy loop over one row, trip by trip: the standing scores are the scores after so many rounds, and lane `t` of
   each accumulator holds what round `t` picked. -/
module

public import proofs.«01_k».proof.Proof.IdealPick
public import proofs.«01_k».proof.Proof.IdealNms
public import Idealize.ShloMosaic.Lib.WordArith.Masks

@[expose] public section

set_option maxRecDepth 16384

noncomputable section

namespace Cert.KernelIdeal.Value

open Idealize.ShloMosaic Idealize.ShloMosaic.TcCoe Cert.KernelIdeal Cert.KernelIdeal.Gen Cert.Nms

/-- The value written where nothing is picked. -/
abbrev none₁ : EReal := Ideal.ofBits .f32 0xBF800000#32

/-! ## The operations of a trip at an index -/

/-- The suppression at a row and lane. -/
theorem suppress_at (a b c d e s : FVec Ideal S157x128 .f32) (i : IVec S157x128 1) (p q u v : EReal) (r : Fin 157) (l : Fin 128) :
    k1_pay12 (F := Ideal) a b c d e s i p q u v (ix2 r l)
      = Scalar.select (IntOp.ori (BitVec.ofBool (open Classical in decide (Ideal.ofBits .f32 0x3F000000#32 <
          Ideal.div (max (min u (c (ix2 r l)) - max p (a (ix2 r l))) 0 * max (min v (d (ix2 r l)) - max q (b (ix2 r l))) 0)
            (max (max (u - p) 0 * max (v - q) 0 + e (ix2 r l)
              - max (min u (c (ix2 r l)) - max p (a (ix2 r l))) 0 * max (min v (d (ix2 r l)) - max q (b (ix2 r l))) 0)
              (Ideal.ofBits .f32 0x322BCC77#32))))) (i (ix2 r l))) low (s (ix2 r l)) := by
  pointwise [k1_pay12]

/-- A score written to the accumulator's lane `k`. -/
theorem addScore_at (a : FVec Ideal S1x128 .f32) (i : IVec S1x128 32) (k : BitVec 32) (v : EReal) (b : BitVec 1) (l : Fin 128) :
    k1_pay14 (F := Ideal) i a k v b (ix2 0 l)
      = a (ix2 0 l) + Scalar.select (IntOp.cmpi .eq (i (ix2 0 l)) k) (Scalar.select b v none₁) 0 := by
  pointwise [k1_pay14, k1_pay13]

/-- A label written to the accumulator's lane `k`. -/
theorem addLabel_at (a i : IVec S1x128 32) (k : BitVec 32) (v : BitVec 32) (b : BitVec 1) (l : Fin 128) :
    k1_pay15 i a k b v (ix2 0 l)
      = a (ix2 0 l) + Scalar.select (IntOp.cmpi .eq (i (ix2 0 l)) k) (Scalar.select b v 4294967295#32) 0#32 := by
  pointwise [k1_pay15, k1_pay13]
  rfl

/-- The lane flag. -/
theorem laneFlag_at (i : IVec S1x128 32) (k : BitVec 32) (l : Fin 128) :
    k1_pay13 i k (ix2 0 l) = IntOp.cmpi .eq (i (ix2 0 l)) k := by
  pointwise [k1_pay13]

/-- A box written to the accumulator's lane `k`. -/
theorem addBox_at (a : FVec Ideal S4x128 .f32) (i : IVec S1x128 1) (w : Fin 4 → EReal) (z : EReal) (b : BitVec 1) (g : Fin 4) (l : Fin 128) :
    k1_pay1 (F := Ideal) a b i (k1_pay16 (w 0) (w 1) (w 2) (w 3)) z (ix2 g l)
      = a (ix2 g l) + Scalar.select (i (ix2 0 l)) (Scalar.select b (w g) z) 0 := by
  pointwise [k1_pay1, k1_pay16]
  fin_cases g <;> rfl

/-- The lane numbers. -/
theorem lanes_at (l : Fin 128) : iota .tc S1x128 32 [1] iota_S1x128_d1_w32 (ix2 0 l) = BitVec.ofNat 32 l.val := by
  pointwise

theorem trips_eq : k1_t1_loop.trips = 100 := by decide

/-- The counter of trip `k`, in a word. -/
theorem counter_eq (k : Fin k1_t1_loop.trips) : Scf.iv 0#32 1#32 k = BitVec.ofNat 32 k.val := by
  have hk := lt_of_lt_of_eq k.isLt trips_eq
  apply BitVec.eq_of_toNat_eq
  rw [WordArith.toNat_iv_zero_one _ (by omega), BitVec.toNat_ofNat, Nat.mod_eq_of_lt (by omega)]

/-- A choice by whether lane `l` is lane `k`. -/
theorem select_lane {α : Type} (l : Fin 128) (k : Fin k1_t1_loop.trips) (x y : α) :
    Scalar.select (IntOp.cmpi .eq (iota .tc S1x128 32 [1] iota_S1x128_d1_w32 (ix2 0 l)) (Scf.iv 0#32 1#32 k)) x y
      = if l.val = k.val then x else y := by
  have hk := lt_of_lt_of_eq k.isLt trips_eq
  have hl := l.isLt
  rw [lanes_at, counter_eq]
  show Scalar.select (BitVec.ofBool (BitVec.ofNat 32 _ == BitVec.ofNat 32 _)) x y = _
  by_cases h : l.val = k.val
  · simp [h, Scalar.select]
  · have : (BitVec.ofNat 32 l.val == BitVec.ofNat 32 k.val) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    rw [this, if_neg h]
    rfl

/-- A choice by a comparison. -/
theorem select_gt {α : Type} (u v : EReal) (x y : α) :
    Scalar.select (Scalar.cmpf (F := Ideal) (φ := .f32) .ogt u v) x y = open Classical in if v < u then x else y := by
  classical
  show Scalar.select (BitVec.ofBool (decide (v < u))) x y = _
  by_cases h : v < u <;> simp [Scalar.select, h]

/-- A choice by a decided proposition, or nothing else. -/
theorem select_or {α : Type} (p : Prop) [Decidable p] (x y : α) :
    Scalar.select (IntOp.ori (BitVec.ofBool (decide p)) (BitVec.ofBool false)) x y = if p then x else y := by
  by_cases h : p <;> simp [Scalar.select, IntOp.ori, h]

theorem select_or_true {α : Type} (w : Bool) (x y : α) : Scalar.select (IntOp.ori (BitVec.ofBool w) (BitVec.ofBool true)) x y = x := by
  cases w <;> rfl

/-! ## One trip -/

section Trip
variable {lab : IVec S157x128 32} {x1 y1 x2 y2 ar : FVec Ideal S157x128 .f32}
  {L : Fin 20000 → BitVec 32} {box : Fin 20000 → Fin 4 → EReal} {dl : BitVec 32} {d0 d1 d2 d3 da : EReal}
  (hL : Spread lab L dl) (h0 : Spread x1 (fun j => box j 0) d0) (h1 : Spread y1 (fun j => box j 1) d1)
  (h2 : Spread x2 (fun j => box j 2) d2) (h3 : Spread y2 (fun j => box j 3) d3) (ha : Spread ar (fun j => area (box j)) da)
  (k : Fin k1_t1_loop.trips) (a : NmsAcc Ideal) {f : Fin 20000 → EReal} (hs : Spread a.1 f low) (hf : ∀ j, low ≤ f j)
include h0 h1 h2 h3 hs hf

/-- The standing scores after the trip: one more round. -/
theorem trip_scores (ha : Spread ar (fun j => area (box j)) da) :
    Spread (nmsTrip lab x1 y1 x2 y2 ar k a).1 (step box f) low := by
  classical
  intro r l
  show k1_pay12 (F := Ideal) x1 y1 x2 y2 ar a.1 _ _ _ _ _ (ix2 r l) = _
  rw [suppress_at, isPick_at hs hf, pick7 hs hf h0, pick8 hs hf h1, pick9 hs hf h2, pick10 hs hf h3]
  by_cases h : 128 * r.val + l.val < 20000
  · rw [dif_pos h, h0.inside r l h, h1.inside r l h, h2.inside r l h, h3.inside r l h, ha.inside r l h, hs.inside r l h]
    unfold step
    by_cases hp : 128 * r.val + l.val = (first f).val
    · rw [if_pos (Fin.ext hp)]
      simp only [hp, decide_true]
      exact select_or_true _ _ _
    · rw [if_neg fun e => hp (congrArg Fin.val e)]
      simp only [hp, decide_false]
      exact select_or (Ideal.ofBits .f32 0x3F000000#32 < iou (box (first f)) (box ⟨_, h⟩)) _ _
  · rw [dif_neg h, hs.outside r l h]
    unfold Scalar.select
    split <;> rfl

/-- The scores accumulator after the trip. -/
theorem trip_acc_scores (l : Fin 128) :
    (nmsTrip lab x1 y1 x2 y2 ar k a).2.1 (ix2 0 l)
      = a.2.1 (ix2 0 l) + open Classical in if l.val = k.val then (if bound < f (first f) then f (first f) else none₁) else 0 := by
  show k1_pay14 (F := Ideal) _ a.2.1 _ _ _ (ix2 0 l) = _
  rw [addScore_at, select_lane, best_eq hs hf, select_gt]
  rfl

/-- The labels accumulator after the trip. -/
theorem trip_acc_labels (hL : Spread lab L dl) (l : Fin 128) :
    (nmsTrip lab x1 y1 x2 y2 ar k a).2.2.1 (ix2 0 l)
      = a.2.2.1 (ix2 0 l) + open Classical in if l.val = k.val then (if bound < f (first f) then L (first f) else 4294967295#32) else 0#32 := by
  show k1_pay15 _ a.2.2.1 _ _ _ (ix2 0 l) = _
  rw [addLabel_at, select_lane, best_eq hs hf, select_gt, pickLabel hs hf hL]
  rfl

/-- The boxes accumulator after the trip. -/
theorem trip_acc_boxes (q : Fin 4) (l : Fin 128) :
    (nmsTrip lab x1 y1 x2 y2 ar k a).2.2.2 (ix2 q l)
      = a.2.2.2 (ix2 q l) + open Classical in if l.val = k.val then (if bound < f (first f) then box (first f) q else none₁) else 0 := by
  show k1_pay1 (F := Ideal) a.2.2.2 _ _ _ _ (ix2 q l) = _
  rw [pick7 hs hf h0, pick8 hs hf h1, pick9 hs hf h2, pick10 hs hf h3,
    addBox_at _ _ (box (first f)), laneFlag_at, select_lane, best_eq hs hf, select_gt]
  rfl

end Trip

/-! ## All trips -/

/-- A property kept by every trip holds after all of them. -/
theorem fold_inv {n : ℕ} {σ : Type} (g : Fin n → σ → σ) (init : σ) (P : ℕ → σ → Prop) (h0 : P 0 init)
    (hs : ∀ (k : Fin n) a, P k.val a → P (k.val + 1) (g k a)) : P n (Scf.fold g init) := by
  rw [Scf.fold_eq]
  have : ∀ k (hk : k ≤ n), P k (((List.finRange n).take k).foldl (fun acc k => g k acc) init) := by
    intro k
    induction k with
    | zero => intro _; simpa using h0
    | succ k ih =>
      intro hk
      rw [List.take_succ_eq_append_getElem (by simpa using hk), List.foldl_append]
      simpa using hs ⟨k, hk⟩ _ (ih (by omega))
  have h := this n le_rfl
  rwa [List.take_of_length_le (by simp)] at h

/-- The first `n` lanes hold `g`, the others `z`. -/
def Lanes {α : Type} (v : Fin 128 → α) (g : ℕ → α) (z : α) (n : ℕ) : Prop := ∀ l : Fin 128, v l = if l.val < n then g l.val else z

/-- Adding a value at lane `n` to lanes filled up to `n` and zero from there on. -/
theorem Lanes.succ {α : Type} [Add α] {v w : Fin 128 → α} {g : ℕ → α} {z : α} {n : ℕ} (hr : ∀ x : α, x + z = x)
    (hl : ∀ x : α, z + x = x) (h : Lanes v g z n) (hw : ∀ l, w l = v l + if l.val = n then g n else z) : Lanes w g z (n + 1) := by
  intro l
  rw [hw, h l]
  rcases lt_trichotomy l.val n with h | h | h
  · rw [if_pos h, if_neg h.ne, if_pos (by omega), hr]
  · rw [if_neg (by omega), if_pos h, if_pos (by omega), hl, h]
  · rw [if_neg (by omega), if_neg (by omega), if_neg (by omega), hr]

/-- What one row of boxes, best class scores and labels gives in round `t`. -/
structure Row where
  box : Fin 20000 → Fin 4 → EReal
  best : Fin 20000 → EReal
  label : Fin 20000 → BitVec 32

namespace Row
variable (R : Row)

/-- The standing scores before round `t`. -/
def scores (t : ℕ) : Fin 20000 → EReal := rounds R.box (start R.best) t
/-- The position picked in round `t`. -/
def pick (t : ℕ) : Fin 20000 := first (R.scores t)
/-- Whether the pick is a detection. -/
def keep (t : ℕ) : Prop := bound < R.scores t (R.pick t)

open Classical in
/-- The score given out in round `t`. -/
def outScore (t : ℕ) : EReal := if R.keep t then R.best (R.pick t) else none₁
open Classical in
/-- The label given out in round `t`. -/
def outLabel (t : ℕ) : BitVec 32 := if R.keep t then R.label (R.pick t) else 4294967295#32
open Classical in
/-- The box given out in round `t`. -/
def outBox (q : Fin 4) (t : ℕ) : EReal := if R.keep t then R.box (R.pick t) q else none₁

end Row

/-- What the loop carries before trip `n`. -/
def Carried (R : Row) (n : ℕ) (a : NmsAcc Ideal) : Prop :=
  Spread a.1 (R.scores n) low ∧ Lanes (fun l => a.2.1 (ix2 0 l)) R.outScore 0 n
    ∧ Lanes (fun l => a.2.2.1 (ix2 0 l)) R.outLabel 0#32 n ∧ ∀ q, Lanes (fun l => a.2.2.2 (ix2 q l)) (R.outBox q) 0 n

/-- One trip carries on. -/
theorem Carried.trip {R : Row} {lab : IVec S157x128 32} {x1 y1 x2 y2 ar : FVec Ideal S157x128 .f32}
    {dl : BitVec 32} {d0 d1 d2 d3 da : EReal}
    (hL : Spread lab R.label dl) (h0 : Spread x1 (fun j => R.box j 0) d0) (h1 : Spread y1 (fun j => R.box j 1) d1)
    (h2 : Spread x2 (fun j => R.box j 2) d2) (h3 : Spread y2 (fun j => R.box j 3) d3) (ha : Spread ar (fun j => area (R.box j)) da)
    (k : Fin k1_t1_loop.trips) (a : NmsAcc Ideal) (h : Carried R k.val a) :
    Carried R (k.val + 1) (nmsTrip lab x1 y1 x2 y2 ar k a) := by
  classical
  obtain ⟨hs, hsc, hlb, hbx⟩ := h
  have hf : ∀ j, low ≤ R.scores k.val j := low_le_rounds _ _ _
  refine ⟨trip_scores h0 h1 h2 h3 k a hs hf ha, hsc.succ add_zero zero_add fun l => ?_,
    hlb.succ BitVec.add_zero BitVec.zero_add fun l => ?_, fun q => (hbx q).succ add_zero zero_add fun l => ?_⟩
  · refine (trip_acc_scores h0 h1 h2 h3 k a hs hf l).trans ?_
    congr 2
    unfold Row.outScore Row.keep Row.pick
    by_cases hk : bound < R.scores k.val (first (R.scores k.val))
    · rw [if_pos hk, if_pos hk]
      exact rounds_eq_of_bound_lt _ _ _ _ hk
    · rw [if_neg hk, if_neg hk]
  · refine (trip_acc_labels h0 h1 h2 h3 k a hs hf hL l).trans ?_
    congr 1
    refine if_congr Iff.rfl ?_ rfl
    unfold Row.outLabel Row.keep Row.pick
    congr
  · refine (trip_acc_boxes h0 h1 h2 h3 k a hs hf q l).trans ?_
    congr 1
    refine if_congr Iff.rfl ?_ rfl
    unfold Row.outBox Row.keep Row.pick
    congr

end Cert.KernelIdeal.Value

end
-- ==== Proof.IdealScore.lean ====
/- The first call's two result arrays at the ideal values: per box the largest class score, when it is over the
   threshold, and the first class that has it. -/
module

public import proofs.«01_k».proof.Proof.IdealPick
public import proofs.«01_k».proof.Proof.IdealRun
public import Idealize.ShloMosaic.Lib.Pipeline.ValueKit

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Nms

/-- A score kept when over the threshold, lowered otherwise. -/
def lift (v : EReal) : EReal := open Classical in if thr < v then v else low

/-- The scores block at a box. -/
theorem score_at (x : FVec Ideal S1x2000x80 .f32) (u : Fin 2000) :
    k0_pay3 (F := Ideal) x (ix3 0 u 0) = lift (x (ix3 0 u (first fun l : Fin 80 => x (ix3 0 u l)))) := by
  pointwise [k0_pay3, k0_pay2, k0_pay1]
  rw [ofBits_least, fold_max_eq]
  rfl

/-- The signed minimum of the positions of the greatest value is the first one. -/
theorem first_word (g : Fin 80 → EReal) [∀ l, Decidable (g l = g (first g))] :
    Finset.univ.fold IntOp.minsi 2147483647#32 (fun l => if g l = g (first g) then BitVec.ofNat 32 l.val else 1073741824#32)
      = BitVec.ofNat 32 (first g).val := by
  have big : (1073741824#32 : BitVec 32).toInt = 1073741824 := rfl
  have top : (2147483647#32 : BitVec 32).toInt = 2147483647 := rfl
  have hlt := (first g).isLt
  apply fold_minsi_eq
  · exact ⟨first g, Finset.mem_univ _, if_pos rfl⟩
  · intro l _
    have hl := l.isLt
    rw [toInt_ofNat (by omega)]
    split
    · next h =>
      rw [toInt_ofNat (by omega)]
      exact_mod_cast (Fin.le_def.mp (first_le g l h))
    · rw [big]; omega
  · rw [toInt_ofNat (by omega), top]; omega

/-- The labels block at a box. -/
theorem labelWord_at (x : FVec Ideal S1x2000x80 .f32) (u : Fin 2000) :
    k0_pay4 (F := Ideal) x (ix3 0 u 0) = BitVec.ofNat 32 (first fun l : Fin 80 => x (ix3 0 u l)).val := by
  pointwise [k0_pay4, k0_pay2, k0_pay1]
  rw [ofBits_least, fold_max_eq]
  exact first_word fun l : Fin 80 => x (ix3 0 u l)

/-- The best class of box `j` of row `b`. -/
abbrev bestClass (X : FVec Ideal S8x20000x80 .f32) (b : Fin 8) (j : Fin 20000) : Fin 80 := first fun l : Fin 80 => X (ix3 b j l)

/-- The scores array. -/
def scoreArr (X : FVec Ideal S8x20000x80 .f32) : FVec Ideal S8x20000x1 .f32 := fun i =>
  lift (X (ix3 (i 0) (i 1) (bestClass X (i 0) (i 1))))

/-- The labels array. -/
def labelArr (X : FVec Ideal S8x20000x80 .f32) : IVec S8x20000x1 32 := fun i =>
  BitVec.ofNat 32 (bestClass X (i 0) (i 1)).val

/-- Point `t` is image `t / 10`, stretch `t % 10`. -/
theorem idx0 : ∀ t : Fin cfg0.N, win0_0.index t = ![t.val / 10, t.val % 10, 0] ∧ win0_1.index t = ![t.val / 10, t.val % 10, 0]
    ∧ win0_2.index t = ![t.val / 10, t.val % 10, 0] :=
  (by decide +kernel : ∀ t : Fin grid0.N, _)

variable (m : (ℓ : Loc nD τ sig) → Buf (Elt Ideal) ℓ) (ρ : Dev nD → PrngReg)

/-- The class scores of the launch. -/
abbrev argCls (c : Dev nD) : FVec Ideal S8x20000x80 .f32 := m ((c : Thread nD τ).loc main_arg1)

/-- A block of class scores at a point, read at a box of it. -/
theorem clsBlock (c : Dev nD) (t : Fin cfg0.N) (i : S8x20000x1.Idx) (u : Fin 2000) (h0 : (i 0).val = t.val / 10)
    (h1 : (i 1).val = t.val % 10 * 2000 + u.val) (l : Fin 80) :
    iblk0 (V0 m ρ) c 0 t (ix3 0 u l) = argCls m c (ix3 (i 0) (i 1) l) := by
  blk_ext [iblk0, V0, idx0 t]

/-- What point `t` stores as scores, at a box of it. -/
theorem point0_1 (c : Dev nD) (t : Fin cfg0.N) (i : S8x20000x1.Idx) (y : S1x2000x1.Idx) (h0 : (i 0).val = t.val / 10)
    (h1 : (i 1).val = t.val % 10 * 2000 + (y 1).val) :
    k0_pay3 (F := Ideal) (iblk0 (V0 m ρ) c 0 t) y = scoreArr (argCls m c) i := by
  idx_vars y
  obtain rfl : y0 = 0 := Subsingleton.elim _ _
  obtain rfl : y2 = 0 := Subsingleton.elim _ _
  refine (score_at _ y1).trans ?_
  have e : (fun l : Fin 80 => iblk0 (V0 m ρ) c 0 t (ix3 0 y1 l)) = fun l : Fin 80 => argCls m c (ix3 (i 0) (i 1) l) :=
    funext fun l => clsBlock m ρ c t i y1 h0 h1 l
  exact congrArg (fun g : Fin 80 → EReal => lift (g (first g))) e

/-- What point `t` stores as labels, at a box of it. -/
theorem point0_2 (c : Dev nD) (t : Fin cfg0.N) (i : S8x20000x1.Idx) (y : S1x2000x1.Idx) (h0 : (i 0).val = t.val / 10)
    (h1 : (i 1).val = t.val % 10 * 2000 + (y 1).val) :
    k0_pay4 (F := Ideal) (iblk0 (V0 m ρ) c 0 t) y = labelArr (argCls m c) i := by
  idx_vars y
  obtain rfl : y0 = 0 := Subsingleton.elim _ _
  obtain rfl : y2 = 0 := Subsingleton.elim _ _
  refine (labelWord_at _ y1).trans ?_
  have e : (fun l : Fin 80 => iblk0 (V0 m ρ) c 0 t (ix3 0 y1 l)) = fun l : Fin 80 => argCls m c (ix3 (i 0) (i 1) l) :=
    funext fun l => clsBlock m ρ c t i y1 h0 h1 l
  exact congrArg (fun g : Fin 80 → EReal => BitVec.ofNat 32 (first g).val) e

/-- The scores array after the first call. -/
theorem final0_1 (c : Dev nD) : (dat0 (V0 m ρ) c).arrAt 1 cfg0.N = scoreArr (argCls m c) := by
  refine (dat0 (V0 m ρ) c).arrAt_eq_of_covers 1 _ (by decide +kernel) fun t _ y => ?_
  blk_simp
  rw [after0_1]; unfold out0_1; frame_out
  refine point0_1 m ρ c t _ y ?_ ?_ <;> (blk_simp [idx0 t] <;> (try omega))

/-- The labels array after the first call. -/
theorem final0_2 (c : Dev nD) : (dat0 (V0 m ρ) c).arrAt 2 cfg0.N = labelArr (argCls m c) := by
  refine (dat0 (V0 m ρ) c).arrAt_eq_of_covers 2 _ (by decide +kernel) fun t _ y => ?_
  blk_simp
  rw [after0_2]; unfold out0_2; frame_out
  refine point0_2 m ρ c t _ y ?_ ?_ <;> (blk_simp [idx0 t] <;> (try omega))

end Cert.KernelIdeal.Value

end
-- ==== Proof.IdealHost.lean ====
/- The host operations between the two calls and after them, read at an index: each row of 20000 is padded to 20096 and
   laid out in 157 rows of 128 lanes; after the second call the first hundred lanes are kept. -/
module

public import proofs.«01_k».proof.Proof.IdealScore
public import Idealize.ShloMosaic.Lib.StableHlo.ReadAt

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen Cert.Nms

variable (V : Valuation τ sig (Elt Ideal))

/-- The padded scores. -/
theorem padScores_at (b : Fin 8) (r : Fin 157) (l : Fin 128) :
    (after hostOps1 V (Proc.devRef .tc main_v5) : FVec Ideal S8x157x128 .f32) (ix3 b r l)
      = if h : 128 * r.val + l.val < 20000 then (V (Proc.devRef .tc main_v0_0) : FVec Ideal S8x20000x1 .f32) (ix3 b ⟨_, h⟩ 0) else low := by
  after_reads_at
  by_cases h : 128 * r.val + l.val < 20000
  · rw [dif_pos h, dif_pos (by omega)]
    after_reads_at
    exact congrArg (fun j : Fin 20000 => (V (Proc.devRef .tc main_v0_0) : FVec Ideal S8x20000x1 .f32) (ix3 b j 0)) (Fin.ext (by dsimp only; omega))
  · rw [dif_neg h, dif_neg (by omega)]
    after_reads_at

/-- The padded labels. -/
theorem padLabels_at (b : Fin 8) (r : Fin 157) (l : Fin 128) :
    (after hostOps1 V (Proc.devRef .tc main_v8) : IVec S8x157x128 32) (ix3 b r l)
      = if h : 128 * r.val + l.val < 20000 then (V (Proc.devRef .tc main_v0_1) : IVec S8x20000x1 32) (ix3 b ⟨_, h⟩ 0) else 0#32 := by
  after_reads_at
  by_cases h : 128 * r.val + l.val < 20000
  · rw [dif_pos h, dif_pos (by omega)]
    after_reads_at
    exact congrArg (fun j : Fin 20000 => (V (Proc.devRef .tc main_v0_1) : IVec S8x20000x1 32) (ix3 b j 0)) (Fin.ext (by dsimp only; omega))
  · rw [dif_neg h, dif_neg (by omega)]
    after_reads_at

/-- The padded coordinates, one plane each. -/
theorem planes_at (b : Fin 8) (q : Fin 4) (r : Fin 157) (l : Fin 128) :
    (after hostOps1 V (Proc.devRef .tc main_v12) : FVec Ideal S8x4x157x128 .f32) (ix4 b q r l)
      = if h : 128 * r.val + l.val < 20000 then (V (Proc.devRef .tc main_arg0) : FVec Ideal S8x20000x4 .f32) (ix3 b ⟨_, h⟩ q) else (0 : EReal) := by
  after_reads_at
  by_cases h : 128 * r.val + l.val < 20000
  · rw [dif_pos h, dif_pos (by omega)]
    after_reads_at
    exact congrArg (fun j : Fin 20000 => (V (Proc.devRef .tc main_arg0) : FVec Ideal S8x20000x4 .f32) (ix3 b j q)) (Fin.ext (by dsimp only; omega))
  · rw [dif_neg h, dif_neg (by omega)]
    after_reads_at

/-- The boxes given out. -/
theorem boxes_at (b : Fin 8) (t : Fin 100) (q : Fin 4) :
    (after hostOps2 V (Proc.devRef .tc main_v15) : FVec Ideal S8x100x4 .f32) (ix3 b t q)
      = (V (Proc.devRef .tc main_v13_0) : FVec Ideal S8x4x128 .f32) (ix3 b q ⟨t.val, by omega⟩) := by
  after_reads_at

/-- The scores given out. -/
theorem scores_at (b : Fin 8) (t : Fin 100) :
    (after hostOps2 V (Proc.devRef .tc main_v17) : FVec Ideal S8x100 .f32) (ix2 b t)
      = (V (Proc.devRef .tc main_v13_1) : FVec Ideal S8x1x128 .f32) (ix3 b 0 ⟨t.val, by omega⟩) := by
  after_reads_at

/-- The labels given out. -/
theorem labels_at (b : Fin 8) (t : Fin 100) :
    (after hostOps2 V (Proc.devRef .tc main_v19) : IVec S8x100 32) (ix2 b t)
      = (V (Proc.devRef .tc main_v13_2) : IVec S8x1x128 32) (ix3 b 0 ⟨t.val, by omega⟩) := by
  after_reads_at

end Cert.KernelIdeal.Value

end
-- ==== Proof.IdealFold.lean ====
/- The second call's three result arrays at the ideal values: lane `t < 100` of each row holds what round `t` gives out. -/
module

public import proofs.«01_k».proof.Proof.IdealTrip
public import proofs.«01_k».proof.Proof.IdealHost

@[expose] public section

set_option maxRecDepth 16384

noncomputable section

namespace Cert.KernelIdeal.Value

open Idealize.ShloMosaic Idealize.ShloMosaic.TcCoe Idealize.SL.Sem Idealize.ShloMosaic.StableHlo
open Idealize.ShloMosaic.Pipeline (Dat)
open Cert.KernelIdeal Cert.KernelIdeal.Gen Cert.Nms

/-- After all trips over one row's blocks the accumulators' first hundred lanes hold what the rounds give out. -/
theorem carried_fold (R : Row) (x0 : FVec Ideal S1x157x128 .f32) (x1 : IVec S1x157x128 32) (x2 : FVec Ideal S1x4x157x128 .f32)
    (h0 : ∀ (r : Fin 157) (l : Fin 128), x0 (ix3 0 r l) = if h : 128 * r.val + l.val < 20000 then start R.best ⟨_, h⟩ else low)
    (h1 : ∀ (r : Fin 157) (l : Fin 128), x1 (ix3 0 r l) = if h : 128 * r.val + l.val < 20000 then R.label ⟨_, h⟩ else 0#32)
    (h2 : ∀ (q : Fin 4) (r : Fin 157) (l : Fin 128), x2 (ix4 0 q r l) = if h : 128 * r.val + l.val < 20000 then R.box ⟨_, h⟩ q else (0 : EReal)) :
    Carried R 100 (nmsFold (F := Ideal) x0 x1 x2) := by
  have key : Carried R k1_t1_loop.trips (nmsFold (F := Ideal) x0 x1 x2) := by
    refine fold_inv _ _ (Carried R) ?_ fun k a h => ?_
    · refine ⟨fun r l => ?_, fun l => ?_, fun l => ?_, fun q l => ?_⟩
      · unfold nmsInit
        dsimp only
        pointwise [k1_pay17]
        exact h0 r l
      · rw [if_neg (Nat.not_lt_zero _)]
        show k1_pay25 (F := Ideal) (ix2 0 l) = _
        pointwise [k1_pay25]
      · rw [if_neg (Nat.not_lt_zero _)]
        show k1_pay26 (ix2 0 l) = _
        pointwise [k1_pay26]
      · rw [if_neg (Nat.not_lt_zero _)]
        show k1_pay27 (F := Ideal) (ix2 q l) = _
        pointwise [k1_pay27]
    · unfold nmsStep
      refine Carried.trip (dl := 0#32) (d0 := 0) (d1 := 0) (d2 := 0) (d3 := 0) (da := max (0 - 0) 0 * max (0 - 0) 0)
        (fun r l => ?_) (fun r l => ?_) (fun r l => ?_) (fun r l => ?_) (fun r l => ?_) (fun r l => ?_) k a h
      · pointwise [k1_pay18]
        exact h1 r l
      · pointwise [k1_pay19]
        exact h2 0 r l
      · pointwise [k1_pay20]
        exact h2 1 r l
      · pointwise [k1_pay21]
        exact h2 2 r l
      · pointwise [k1_pay22]
        exact h2 3 r l
      · pointwise [k1_pay23, k1_pay19, k1_pay20, k1_pay21, k1_pay22]
        have e0 := h2 0 r l
        have e1 := h2 1 r l
        have e2 := h2 2 r l
        have e3 := h2 3 r l
        rw [e0, e1, e2, e3]
        by_cases hj : 128 * r.val + l.val < 20000
        · simp only [dif_pos hj]
          rfl
        · simp only [dif_neg hj]
          simp
  rwa [trips_eq] at key

end Cert.KernelIdeal.Value

end
-- ==== Proof.IdealValue.lean ====
/- The kernel's three results at the ideal values, read at an index: round `t` of image `b`. -/
module

public import proofs.«01_k».proof.Proof.IdealFold
public import proofs.«01_k».proof.Proof.IdealScore

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen Cert.Nms

variable (m : (ℓ : Loc nD τ sig) → Buf (Elt Ideal) ℓ) (ρ : Dev nD → PrngReg)

/-- The boxes of the launch. -/
abbrev argBox (c : Dev nD) : FVec Ideal S8x20000x4 .f32 := m ((c : Thread nD τ).loc main_arg0)

/-- Image `b`'s boxes, best class scores and labels. -/
def rowAt (c : Dev nD) (b : Fin 8) : Row where
  box j q := argBox m c (ix3 b j q)
  best j := argCls m c (ix3 b j (bestClass (argCls m c) b j))
  label j := BitVec.ofNat 32 (bestClass (argCls m c) b j).val

/-! ## The arrays the second call reads -/

/-- The scores, padded. -/
theorem in1_0 (c : Dev nD) (b : Fin 8) (r : Fin 157) (l : Fin 128) :
    (V2 m ρ c main_v5 : FVec Ideal S8x157x128 .f32) (ix3 b r l)
      = if h : 128 * r.val + l.val < 20000 then start (rowAt m c b).best ⟨_, h⟩ else low := by
  refine (padScores_at (W1 m ρ c) b r l).trans ?_
  rw [show W1 m ρ c (Proc.devRef .tc main_v0_0) = scoreArr (argCls m c) from (W1_arr m ρ c 1).trans (final0_1 m ρ c)]
  rfl

/-- The labels, padded. -/
theorem in1_1 (c : Dev nD) (b : Fin 8) (r : Fin 157) (l : Fin 128) :
    (V2 m ρ c main_v8 : IVec S8x157x128 32) (ix3 b r l)
      = if h : 128 * r.val + l.val < 20000 then (rowAt m c b).label ⟨_, h⟩ else 0#32 := by
  refine (padLabels_at (W1 m ρ c) b r l).trans ?_
  rw [show W1 m ρ c (Proc.devRef .tc main_v0_1) = labelArr (argCls m c) from (W1_arr m ρ c 2).trans (final0_2 m ρ c)]
  rfl

/-- The coordinates, padded. -/
theorem in1_2 (c : Dev nD) (b : Fin 8) (q : Fin 4) (r : Fin 157) (l : Fin 128) :
    (V2 m ρ c main_v12 : FVec Ideal S8x4x157x128 .f32) (ix4 b q r l)
      = if h : 128 * r.val + l.val < 20000 then (rowAt m c b).box ⟨_, h⟩ q else (0 : EReal) := by
  refine (planes_at (W1 m ρ c) b q r l).trans ?_
  rw [show W1 m ρ c (Proc.devRef .tc main_arg0) = argBox m c from W1_args m ρ c main_arg0 (by decide)]
  rfl

/-! ## The second call -/

/-- Point `t` is image `t`. -/
theorem idx1 : ∀ t : Fin cfg1.N, win1_0.index t = ![t.val, 0, 0] ∧ win1_1.index t = ![t.val, 0, 0] ∧ win1_2.index t = ![t.val, 0, 0, 0]
    ∧ win1_3.index t = ![t.val, 0, 0] ∧ win1_4.index t = ![t.val, 0, 0] ∧ win1_5.index t = ![t.val, 0, 0] :=
  (by decide +kernel : ∀ t : Fin grid1.N, _)

/-- The scores block of a point. -/
theorem block1_0 (c : Dev nD) (t : Fin cfg1.N) (b : Fin 8) (hb : b.val = t.val) (r : Fin 157) (l : Fin 128) :
    iblk1 (V2 m ρ) c 0 t (ix3 0 r l) = (V2 m ρ c main_v5 : FVec Ideal S8x157x128 .f32) (ix3 b r l) := by
  blk_ext [iblk1, idx1 t]

/-- The labels block of a point. -/
theorem block1_1 (c : Dev nD) (t : Fin cfg1.N) (b : Fin 8) (hb : b.val = t.val) (r : Fin 157) (l : Fin 128) :
    iblk1 (V2 m ρ) c 1 t (ix3 0 r l) = (V2 m ρ c main_v8 : IVec S8x157x128 32) (ix3 b r l) := by
  blk_ext [iblk1, idx1 t]

/-- The coordinates block of a point. -/
theorem block1_2 (c : Dev nD) (t : Fin cfg1.N) (b : Fin 8) (hb : b.val = t.val) (q : Fin 4) (r : Fin 157) (l : Fin 128) :
    iblk1 (V2 m ρ) c 2 t (ix4 0 q r l) = (V2 m ρ c main_v12 : FVec Ideal S8x4x157x128 .f32) (ix4 b q r l) := by
  blk_ext [iblk1, idx1 t]

/-- What the loop leaves at a point. -/
theorem carried_point (c : Dev nD) (t : Fin cfg1.N) (b : Fin 8) (hb : b.val = t.val) :
    Carried (rowAt m c b) 100 (nmsFold (F := Ideal) (iblk1 (V2 m ρ) c 0 t) (iblk1 (V2 m ρ) c 1 t) (iblk1 (V2 m ρ) c 2 t)) :=
  carried_fold (rowAt m c b) _ _ _ (fun r l => (block1_0 m ρ c t b hb r l).trans (in1_0 m ρ c b r l))
    (fun r l => (block1_1 m ρ c t b hb r l).trans (in1_1 m ρ c b r l))
    (fun q r l => (block1_2 m ρ c t b hb q r l).trans (in1_2 m ρ c b q r l))

/-- The picked boxes array. -/
def boxArr (c : Dev nD) : FVec Ideal S8x4x128 .f32 := fun i =>
  if (i 2).val < 100 then (rowAt m c (i 0)).outBox (i 1) (i 2).val else (0 : EReal)

/-- The picked scores array. -/
def pickedArr (c : Dev nD) : FVec Ideal S8x1x128 .f32 := fun i =>
  if (i 2).val < 100 then (rowAt m c (i 0)).outScore (i 2).val else (0 : EReal)

/-- The picked labels array. -/
def classArr (c : Dev nD) : IVec S8x1x128 32 := fun i =>
  if (i 2).val < 100 then (rowAt m c (i 0)).outLabel (i 2).val else 0#32

/-- What point `t` stores as boxes. -/
theorem point1_3 (c : Dev nD) (t : Fin cfg1.N) (i : S8x4x128.Idx) (y : S1x4x128.Idx) (h0 : (i 0).val = t.val)
    (h1 : (i 1).val = (y 1).val) (h2 : (i 2).val = (y 2).val) :
    k1_pay4 (F := Ideal) (nmsFold (F := Ideal) (iblk1 (V2 m ρ) c 0 t) (iblk1 (V2 m ρ) c 1 t) (iblk1 (V2 m ρ) c 2 t)).2.2.2 y = boxArr m c i := by
  have h := (carried_point m ρ c t (i 0) h0).2.2.2 (i 1) (i 2)
  revert h
  generalize nmsFold (F := Ideal) (iblk1 (V2 m ρ) c 0 t) (iblk1 (V2 m ρ) c 1 t) (iblk1 (V2 m ρ) c 2 t) = a
  intro h
  idx_vars y
  obtain rfl : y0 = 0 := Subsingleton.elim _ _
  obtain rfl : i 1 = y1 := Fin.ext h1
  obtain rfl : i 2 = y2 := Fin.ext h2
  refine Eq.trans ?_ h
  pointwise [k1_pay4]

/-- What point `t` stores as scores. -/
theorem point1_4 (c : Dev nD) (t : Fin cfg1.N) (i : S8x1x128.Idx) (y : S1x1x128.Idx) (h0 : (i 0).val = t.val) (h2 : (i 2).val = (y 2).val) :
    k1_pay2 (F := Ideal) (nmsFold (F := Ideal) (iblk1 (V2 m ρ) c 0 t) (iblk1 (V2 m ρ) c 1 t) (iblk1 (V2 m ρ) c 2 t)).2.1 y = pickedArr m c i := by
  have h := (carried_point m ρ c t (i 0) h0).2.1 (i 2)
  revert h
  generalize nmsFold (F := Ideal) (iblk1 (V2 m ρ) c 0 t) (iblk1 (V2 m ρ) c 1 t) (iblk1 (V2 m ρ) c 2 t) = a
  intro h
  idx_vars y
  obtain rfl : y0 = 0 := Subsingleton.elim _ _
  obtain rfl : y1 = 0 := Subsingleton.elim _ _
  obtain rfl : i 2 = y2 := Fin.ext h2
  refine Eq.trans ?_ h
  pointwise [k1_pay2]

/-- What point `t` stores as labels. -/
theorem point1_5 (c : Dev nD) (t : Fin cfg1.N) (i : S8x1x128.Idx) (y : S1x1x128.Idx) (h0 : (i 0).val = t.val) (h2 : (i 2).val = (y 2).val) :
    k1_pay3 (nmsFold (F := Ideal) (iblk1 (V2 m ρ) c 0 t) (iblk1 (V2 m ρ) c 1 t) (iblk1 (V2 m ρ) c 2 t)).2.2.1 y = classArr m c i := by
  have h := (carried_point m ρ c t (i 0) h0).2.2.1 (i 2)
  revert h
  generalize nmsFold (F := Ideal) (iblk1 (V2 m ρ) c 0 t) (iblk1 (V2 m ρ) c 1 t) (iblk1 (V2 m ρ) c 2 t) = a
  intro h
  idx_vars y
  obtain rfl : y0 = 0 := Subsingleton.elim _ _
  obtain rfl : y1 = 0 := Subsingleton.elim _ _
  obtain rfl : i 2 = y2 := Fin.ext h2
  refine Eq.trans ?_ h
  pointwise [k1_pay3]

/-- The boxes array after the second call. -/
theorem final1_3 (c : Dev nD) : (dat1 (V2 m ρ) c).arrAt 3 cfg1.N = boxArr m c := by
  refine (dat1 (V2 m ρ) c).arrAt_eq_of_covers 3 _ (by decide +kernel) fun t _ y => ?_
  blk_simp
  rw [after1_3]; unfold out1_3; frame_out
  refine point1_3 m ρ c t _ y ?_ ?_ ?_ <;> (blk_simp [idx1 t] <;> (try omega))

/-- The scores array after the second call. -/
theorem final1_4 (c : Dev nD) : (dat1 (V2 m ρ) c).arrAt 4 cfg1.N = pickedArr m c := by
  refine (dat1 (V2 m ρ) c).arrAt_eq_of_covers 4 _ (by decide +kernel) fun t _ y => ?_
  blk_simp
  rw [after1_4]; unfold out1_4; frame_out
  refine point1_4 m ρ c t _ y ?_ ?_ <;> (blk_simp [idx1 t] <;> (try omega))

/-- The labels array after the second call. -/
theorem final1_5 (c : Dev nD) : (dat1 (V2 m ρ) c).arrAt 5 cfg1.N = classArr m c := by
  refine (dat1 (V2 m ρ) c).arrAt_eq_of_covers 5 _ (by decide +kernel) fun t _ y => ?_
  blk_simp
  rw [after1_5]; unfold out1_5; frame_out
  refine point1_5 m ρ c t _ y ?_ ?_ <;> (blk_simp [idx1 t] <;> (try omega))

/-! ## The results -/

/-- The boxes given out. -/
theorem result_boxes (c : Dev nD) (b : Fin 8) (t : Fin 100) (q : Fin 4) :
    (W4 m ρ c (Proc.devRef .tc main_v15) : FVec Ideal S8x100x4 .f32) (ix3 b t q) = (rowAt m c b).outBox q t.val := by
  refine (boxes_at (W3 m ρ c) b t q).trans ?_
  rw [show W3 m ρ c (Proc.devRef .tc main_v13_0) = boxArr m c from (W3_arr m ρ c 3).trans (final1_3 m ρ c)]
  exact if_pos t.isLt

/-- The scores given out. -/
theorem result_scores (c : Dev nD) (b : Fin 8) (t : Fin 100) :
    (W4 m ρ c (Proc.devRef .tc main_v17) : FVec Ideal S8x100 .f32) (ix2 b t) = (rowAt m c b).outScore t.val := by
  refine (scores_at (W3 m ρ c) b t).trans ?_
  rw [show W3 m ρ c (Proc.devRef .tc main_v13_1) = pickedArr m c from (W3_arr m ρ c 4).trans (final1_4 m ρ c)]
  exact if_pos t.isLt

/-- The labels given out. -/
theorem result_labels (c : Dev nD) (b : Fin 8) (t : Fin 100) :
    (W4 m ρ c (Proc.devRef .tc main_v19) : IVec S8x100 32) (ix2 b t) = (rowAt m c b).outLabel t.val := by
  refine (labels_at (W3 m ρ c) b t).trans ?_
  rw [show W3 m ρ c (Proc.devRef .tc main_v13_2) = classArr m c from (W3_arr m ρ c 5).trans (final1_5 m ρ c)]
  exact if_pos t.isLt

end Cert.KernelIdeal.Value

end
-- ==== Proof.RefPick.lean ====
module

public import proofs.«01_k».proof.Proof.Gen.ReferenceIdeal
public import proofs.«01_k».proof.Proof.Greedy
public import Idealize.ShloMosaic.Lib.Pointwise
public import Idealize.ShloMosaic.Lib.ValueIdxCore

@[expose] public section

set_option maxRecDepth 16384

/-!
# The reference's arg-max and its reads at a position

`argmax` returns the first position of the greatest value of a row; the gathers read an array at the
position a 32-bit word names.
-/

noncomputable section

namespace Cert.ReferenceIdeal.Value

open Idealize.ShloMosaic Idealize.ShloMosaic.TcCoe
open Cert.ReferenceIdeal Cert.ReferenceIdeal.Gen Cert.Nms

/-! ## The arg-max -/

/-- The arg-max body keeps the pair that wins. -/
theorem reducer_wins (a b : EReal × BitVec 32) :
    (reducer_argmax_f32_i32 (F := Ideal) a b = a ∧ Wins a b) ∨ (reducer_argmax_f32_i32 (F := Ideal) a b = b ∧ Wins b a) := by
  obtain ⟨x, i⟩ := a
  obtain ⟨y, j⟩ := b
  unfold reducer_argmax_f32_i32 Wins
  rcases lt_trichotomy x y with h | h | h
  · right
    simp [Scalar.select, IntOp.ori, IntOp.andi, FloatOps.cmpf, Ideal.cmp, h, h.ne, not_lt.mpr h.le]
  · subst h
    by_cases g : i.slt j
    · left
      simp [Scalar.select, IntOp.ori, IntOp.andi, IntOp.cmpi, FloatOps.cmpf, Ideal.cmp, g]
      exact (BitVec.slt_iff_toInt_lt.mp g).le
    · right
      simp [Scalar.select, IntOp.ori, IntOp.andi, IntOp.cmpi, FloatOps.cmpf, Ideal.cmp, g]
      exact not_lt.mp fun h => g (BitVec.slt_iff_toInt_lt.mpr h)
  · left
    simp [Scalar.select, IntOp.ori, IntOp.andi, FloatOps.cmpf, Ideal.cmp, h, h.ne']

/-- The pairs an arg-max folds over are the operands' values at the source indices that drop to its index. -/
theorem mem_fiber {s t : Shape} {axes : List (Fin s.rank)} (x : s.Idx → EReal) (y : s.Idx → BitVec 32)
    (h : s.ReducesTo axes t) (j : t.Idx) (p : EReal × BitVec 32) :
    p ∈ Host.argReduceFiber x y h j ↔ ∃ i : s.Idx, h.drop i = j ∧ p = (x i, y i) := by
  simp only [Host.argReduceFiber, List.mem_map, List.mem_filter, List.mem_finRange, true_and, decide_eq_true_eq]
  constructor
  · rintro ⟨n, hn, rfl⟩
    exact ⟨_, hn, rfl⟩
  · rintro ⟨i, hi, rfl⟩
    exact ⟨s.rowMajor i, by rw [Equiv.symm_apply_apply]; exact hi, by rw [Equiv.symm_apply_apply]⟩

/-- The value an arg-max starts from is the least one. -/
theorem least : Ideal.ofBits .f32 0xFF800000#32 = (⊥ : EReal) := by
  simp [Ideal.ofBits, Ideal.ieee]

/-- The arg-max over the positions of one row of boxes. -/
theorem argmax_boxes (x : FVec Ideal S8x20000 .f32) (b : Fin 8) :
    (Host.argReduce (F := Ideal) reducer_argmax_f32_i32 x (iotaInDim S8x20000 32 1) (constant S_ .f32 0xFF800000#32) (constantI S_ 32 0#32)
      reducesTo_S8x20000_S8_d1 h_S_ (ix1 b)).2 = BitVec.ofNat 32 (first fun j : Fin 20000 => x (ix2 b j)).val := by
  rw [Ideal.argReduce_eq_reduce2, Host.reduce2_eq_foldl_fiber]
  show (List.foldl _ (Ideal.ofBits .f32 0xFF800000#32, 0#32) _).2 = _
  rw [least]
  refine foldl_first (by norm_num) _ _ reducer_wins _ fun p => ?_
  rw [mem_fiber]
  constructor
  · rintro ⟨i, hi, rfl⟩
    obtain ⟨k, rfl⟩ := (reducesTo_S8x20000_S8_d1.fiber_r2_a1 (ix1 b) i).mp hi
    exact ⟨k, rfl⟩
  · rintro ⟨k, rfl⟩
    exact ⟨ix2 b k, (reducesTo_S8x20000_S8_d1.fiber_r2_a1 (ix1 b) _).mpr ⟨k, rfl⟩, rfl⟩

/-- The arg-max over the classes of one box. -/
theorem argmax_classes (x : FVec Ideal S8x20000x80 .f32) (b : Fin 8) (r : Fin 20000) :
    (Host.argReduce (F := Ideal) reducer_argmax_f32_i32 x (iotaInDim S8x20000x80 32 2) (constant S_ .f32 0xFF800000#32) (constantI S_ 32 0#32)
      reducesTo_S8x20000x80_S8x20000_d2 h_S_ (ix2 b r)).2 = BitVec.ofNat 32 (first fun j : Fin 80 => x (ix3 b r j)).val := by
  rw [Ideal.argReduce_eq_reduce2, Host.reduce2_eq_foldl_fiber]
  show (List.foldl _ (Ideal.ofBits .f32 0xFF800000#32, 0#32) _).2 = _
  rw [least]
  refine foldl_first (by norm_num) _ _ reducer_wins _ fun p => ?_
  rw [mem_fiber]
  constructor
  · rintro ⟨i, hi, rfl⟩
    obtain ⟨k, rfl⟩ := (reducesTo_S8x20000x80_S8x20000_d2.fiber_r3_a2 (ix2 b r) i).mp hi
    exact ⟨k, rfl⟩
  · rintro ⟨k, rfl⟩
    exact ⟨ix3 b r k, (reducesTo_S8x20000x80_S8x20000_d2.fiber_r3_a2 (ix2 b r) _).mpr ⟨k, rfl⟩, rfl⟩

/-- The arg-max over the classes of every box. -/
def labelsOf (x : FVec Ideal S8x20000x80 .f32) : IVec S8x20000 32 := fun j =>
  (Host.argReduce (F := Ideal) reducer_argmax_f32_i32 x (iotaInDim S8x20000x80 32 2) (constant S_ .f32 0xFF800000#32) (constantI S_ 32 0#32)
    reducesTo_S8x20000x80_S8x20000_d2 h_S_ j).2

theorem labelsOf_eq (x : FVec Ideal S8x20000x80 .f32) : labelsOf x = fun j =>
    (Host.argReduce (F := Ideal) reducer_argmax_f32_i32 x (iotaInDim S8x20000x80 32 2) (constant S_ .f32 0xFF800000#32) (constantI S_ 32 0#32)
      reducesTo_S8x20000x80_S8x20000_d2 h_S_ j).2 := rfl

/-- It is every box's first greatest class. -/
theorem labelsOf_at (x : FVec Ideal S8x20000x80 .f32) (b : Fin 8) (r : Fin 20000) :
    labelsOf x (ix2 b r) = BitVec.ofNat 32 (first fun j : Fin 80 => x (ix3 b r j)).val :=
  (congrFun (labelsOf_eq x) (ix2 b r)).trans (argmax_classes x b r)

/-! ## Reading at a position -/

/-- A word holding a position below `n`, read signed and kept below `n`, is that position. -/
theorem clamp_ofNat {n : ℕ} (hn : n ≤ 2 ^ 31) (k : Fin n) : min (BitVec.ofNat 32 k.val).toInt.toNat (n - 1) = k.val := by
  have := k.isLt
  rw [toInt_ofNat (by omega)]
  simp only [Int.toNat_natCast]
  omega

/-- The picked score of each row. -/
theorem gather_score {α : Type} (x : S8x20000.Idx → α) (i : IVec S8x1 32) (b : Fin 8) (k : Fin 20000)
    (h : i (ix2 b 0) = BitVec.ofNat 32 k.val) :
    Host.gather gather_S8x20000_S8x1_S8_n_1_0_0_1_1_11 x i (ix1 b) = x (ix2 b k) := by
  unfold Host.gather
  congr 1
  funext a
  refine Fin.ext ?_
  match a with
  | ⟨0, _⟩ =>
    show (gather_S8x20000_S8x1_S8_n_1_0_0_1_1_11).start (ix1 b) i (0 : Fin 2) + (gather_S8x20000_S8x1_S8_n_1_0_0_1_1_11).batchCoord (ix1 b) (0 : Fin 2) + (gather_S8x20000_S8x1_S8_n_1_0_0_1_1_11).offCoord (ix1 b) (0 : Fin 2) = _
    rw [GatherDims.start_batching _ _ _ _ (by decide), GatherDims.offCoord_eq_zero _ _ _ (by decide)]
    simp only [Nat.zero_add, Nat.add_zero]
    unfold GatherDims.batchCoord
    rw [dif_pos (show (0 : Fin 2) ∈ (gather_S8x20000_S8x1_S8_n_1_0_0_1_1_11).operandBatchingDims by decide)]
    rfl
  | ⟨1, _⟩ =>
    show (gather_S8x20000_S8x1_S8_n_1_0_0_1_1_11).start (ix1 b) i (1 : Fin 2) + (gather_S8x20000_S8x1_S8_n_1_0_0_1_1_11).batchCoord (ix1 b) (1 : Fin 2) + (gather_S8x20000_S8x1_S8_n_1_0_0_1_1_11).offCoord (ix1 b) (1 : Fin 2) = _
    rw [GatherDims.batchCoord_eq_zero _ _ _ (by decide), GatherDims.offCoord_eq_zero _ _ _ (by decide)]
    simp only [Nat.add_zero]
    unfold GatherDims.start
    rw [dif_pos (show (1 : Fin 2) ∈ (gather_S8x20000_S8x1_S8_n_1_0_0_1_1_11).startIndexMap by decide)]
    rw [show (gather_S8x20000_S8x1_S8_n_1_0_0_1_1_11).siIdx (ix1 b) ⟨List.idxOf (1 : Fin 2) (gather_S8x20000_S8x1_S8_n_1_0_0_1_1_11).startIndexMap, List.idxOf_lt_length_iff.2 (by decide)⟩ = ix2 b 0 from by
      funext c; refine Fin.ext ?_
      match c with
      | ⟨0, _⟩ => rfl
      | ⟨1, _⟩ => rfl, h]
    exact clamp_ofNat (by norm_num) _

/-- The picked box of each row. -/
theorem gather_box {α : Type} (x : S8x20000x4.Idx → α) (i : IVec S8x1 32) (b : Fin 8) (q : Fin 4) (k : Fin 20000)
    (h : i (ix2 b 0) = BitVec.ofNat 32 k.val) :
    Host.gather gather_S8x20000x4_S8x1_S8x4_1_1_0_0_1_1_114 x i (ix2 b q) = x (ix3 b k q) := by
  unfold Host.gather
  congr 1
  funext a
  refine Fin.ext ?_
  match a with
  | ⟨0, _⟩ =>
    show (gather_S8x20000x4_S8x1_S8x4_1_1_0_0_1_1_114).start (ix2 b q) i (0 : Fin 3) + (gather_S8x20000x4_S8x1_S8x4_1_1_0_0_1_1_114).batchCoord (ix2 b q) (0 : Fin 3) + (gather_S8x20000x4_S8x1_S8x4_1_1_0_0_1_1_114).offCoord (ix2 b q) (0 : Fin 3) = _
    rw [GatherDims.start_batching _ _ _ _ (by decide), GatherDims.offCoord_eq_zero _ _ _ (by decide)]
    simp only [Nat.zero_add, Nat.add_zero]
    unfold GatherDims.batchCoord
    rw [dif_pos (show (0 : Fin 3) ∈ (gather_S8x20000x4_S8x1_S8x4_1_1_0_0_1_1_114).operandBatchingDims by decide)]
    rfl
  | ⟨1, _⟩ =>
    show (gather_S8x20000x4_S8x1_S8x4_1_1_0_0_1_1_114).start (ix2 b q) i (1 : Fin 3) + (gather_S8x20000x4_S8x1_S8x4_1_1_0_0_1_1_114).batchCoord (ix2 b q) (1 : Fin 3) + (gather_S8x20000x4_S8x1_S8x4_1_1_0_0_1_1_114).offCoord (ix2 b q) (1 : Fin 3) = _
    rw [GatherDims.batchCoord_eq_zero _ _ _ (by decide), GatherDims.offCoord_eq_zero _ _ _ (by decide)]
    simp only [Nat.add_zero]
    unfold GatherDims.start
    rw [dif_pos (show (1 : Fin 3) ∈ (gather_S8x20000x4_S8x1_S8x4_1_1_0_0_1_1_114).startIndexMap by decide)]
    rw [show (gather_S8x20000x4_S8x1_S8x4_1_1_0_0_1_1_114).siIdx (ix2 b q) ⟨List.idxOf (1 : Fin 3) (gather_S8x20000x4_S8x1_S8x4_1_1_0_0_1_1_114).startIndexMap, List.idxOf_lt_length_iff.2 (by decide)⟩ = ix2 b 0 from by
      funext c; refine Fin.ext ?_
      match c with
      | ⟨0, _⟩ => rfl
      | ⟨1, _⟩ => rfl, h]
    exact clamp_ofNat (by norm_num) _
  | ⟨2, _⟩ =>
    show (gather_S8x20000x4_S8x1_S8x4_1_1_0_0_1_1_114).start (ix2 b q) i (2 : Fin 3) + (gather_S8x20000x4_S8x1_S8x4_1_1_0_0_1_1_114).batchCoord (ix2 b q) (2 : Fin 3) + (gather_S8x20000x4_S8x1_S8x4_1_1_0_0_1_1_114).offCoord (ix2 b q) (2 : Fin 3) = _
    rw [GatherDims.batchCoord_eq_zero _ _ _ (by decide)]
    unfold GatherDims.start
    rw [dif_neg (show (2 : Fin 3) ∉ (gather_S8x20000x4_S8x1_S8x4_1_1_0_0_1_1_114).startIndexMap by decide)]
    simp only [Nat.zero_add]
    unfold GatherDims.offCoord
    rw [dif_pos (show (2 : Fin 3) ∈ (gather_S8x20000x4_S8x1_S8x4_1_1_0_0_1_1_114).sKept by decide)]
    rfl

/-- The label at a picked position. -/
theorem gather_labels {α : Type} (x : S8x20000.Idx → α) (i : IVec S8x100x1 32) (b : Fin 8) (t : Fin 100) (k : Fin 20000)
    (h : i (ix3 b t 0) = BitVec.ofNat 32 k.val) :
    Host.gather gather_S8x20000_S8x100x1_S8x100_n_1_0_0_1_2_11 x i (ix2 b t) = x (ix2 b k) := by
  unfold Host.gather
  congr 1
  funext a
  refine Fin.ext ?_
  match a with
  | ⟨0, _⟩ =>
    show (gather_S8x20000_S8x100x1_S8x100_n_1_0_0_1_2_11).start (ix2 b t) i (0 : Fin 2) + (gather_S8x20000_S8x100x1_S8x100_n_1_0_0_1_2_11).batchCoord (ix2 b t) (0 : Fin 2) + (gather_S8x20000_S8x100x1_S8x100_n_1_0_0_1_2_11).offCoord (ix2 b t) (0 : Fin 2) = _
    rw [GatherDims.start_batching _ _ _ _ (by decide), GatherDims.offCoord_eq_zero _ _ _ (by decide)]
    simp only [Nat.zero_add, Nat.add_zero]
    unfold GatherDims.batchCoord
    rw [dif_pos (show (0 : Fin 2) ∈ (gather_S8x20000_S8x100x1_S8x100_n_1_0_0_1_2_11).operandBatchingDims by decide)]
    rfl
  | ⟨1, _⟩ =>
    show (gather_S8x20000_S8x100x1_S8x100_n_1_0_0_1_2_11).start (ix2 b t) i (1 : Fin 2) + (gather_S8x20000_S8x100x1_S8x100_n_1_0_0_1_2_11).batchCoord (ix2 b t) (1 : Fin 2) + (gather_S8x20000_S8x100x1_S8x100_n_1_0_0_1_2_11).offCoord (ix2 b t) (1 : Fin 2) = _
    rw [GatherDims.batchCoord_eq_zero _ _ _ (by decide), GatherDims.offCoord_eq_zero _ _ _ (by decide)]
    simp only [Nat.add_zero]
    unfold GatherDims.start
    rw [dif_pos (show (1 : Fin 2) ∈ (gather_S8x20000_S8x100x1_S8x100_n_1_0_0_1_2_11).startIndexMap by decide)]
    rw [show (gather_S8x20000_S8x100x1_S8x100_n_1_0_0_1_2_11).siIdx (ix2 b t) ⟨List.idxOf (1 : Fin 2) (gather_S8x20000_S8x100x1_S8x100_n_1_0_0_1_2_11).startIndexMap, List.idxOf_lt_length_iff.2 (by decide)⟩ = ix3 b t 0 from by
      funext c; refine Fin.ext ?_
      match c with
      | ⟨0, _⟩ => rfl
      | ⟨1, _⟩ => rfl
      | ⟨2, _⟩ => rfl, h]
    exact clamp_ofNat (by norm_num) _

/-- The class score at a picked position and label. -/
theorem gather_class {α : Type} (x : S8x20000x80.Idx → α) (i : IVec S8x100x2 32) (b : Fin 8) (t : Fin 100) (k : Fin 20000) (l : Fin 80)
    (h : i (ix3 b t 0) = BitVec.ofNat 32 k.val) (g : i (ix3 b t 1) = BitVec.ofNat 32 l.val) :
    Host.gather gather_S8x20000x80_S8x100x2_S8x100_n_12_0_0_12_2_111 x i (ix2 b t) = x (ix3 b k l) := by
  unfold Host.gather
  congr 1
  funext a
  refine Fin.ext ?_
  match a with
  | ⟨0, _⟩ =>
    show (gather_S8x20000x80_S8x100x2_S8x100_n_12_0_0_12_2_111).start (ix2 b t) i (0 : Fin 3) + (gather_S8x20000x80_S8x100x2_S8x100_n_12_0_0_12_2_111).batchCoord (ix2 b t) (0 : Fin 3) + (gather_S8x20000x80_S8x100x2_S8x100_n_12_0_0_12_2_111).offCoord (ix2 b t) (0 : Fin 3) = _
    rw [GatherDims.start_batching _ _ _ _ (by decide), GatherDims.offCoord_eq_zero _ _ _ (by decide)]
    simp only [Nat.zero_add, Nat.add_zero]
    unfold GatherDims.batchCoord
    rw [dif_pos (show (0 : Fin 3) ∈ (gather_S8x20000x80_S8x100x2_S8x100_n_12_0_0_12_2_111).operandBatchingDims by decide)]
    rfl
  | ⟨1, _⟩ =>
    show (gather_S8x20000x80_S8x100x2_S8x100_n_12_0_0_12_2_111).start (ix2 b t) i (1 : Fin 3) + (gather_S8x20000x80_S8x100x2_S8x100_n_12_0_0_12_2_111).batchCoord (ix2 b t) (1 : Fin 3) + (gather_S8x20000x80_S8x100x2_S8x100_n_12_0_0_12_2_111).offCoord (ix2 b t) (1 : Fin 3) = _
    rw [GatherDims.batchCoord_eq_zero _ _ _ (by decide), GatherDims.offCoord_eq_zero _ _ _ (by decide)]
    simp only [Nat.add_zero]
    unfold GatherDims.start
    rw [dif_pos (show (1 : Fin 3) ∈ (gather_S8x20000x80_S8x100x2_S8x100_n_12_0_0_12_2_111).startIndexMap by decide)]
    rw [show (gather_S8x20000x80_S8x100x2_S8x100_n_12_0_0_12_2_111).siIdx (ix2 b t) ⟨List.idxOf (1 : Fin 3) (gather_S8x20000x80_S8x100x2_S8x100_n_12_0_0_12_2_111).startIndexMap, List.idxOf_lt_length_iff.2 (by decide)⟩ = ix3 b t 0 from by
      funext c; refine Fin.ext ?_
      match c with
      | ⟨0, _⟩ => rfl
      | ⟨1, _⟩ => rfl
      | ⟨2, _⟩ => rfl, h]
    exact clamp_ofNat (by norm_num) _
  | ⟨2, _⟩ =>
    show (gather_S8x20000x80_S8x100x2_S8x100_n_12_0_0_12_2_111).start (ix2 b t) i (2 : Fin 3) + (gather_S8x20000x80_S8x100x2_S8x100_n_12_0_0_12_2_111).batchCoord (ix2 b t) (2 : Fin 3) + (gather_S8x20000x80_S8x100x2_S8x100_n_12_0_0_12_2_111).offCoord (ix2 b t) (2 : Fin 3) = _
    rw [GatherDims.batchCoord_eq_zero _ _ _ (by decide), GatherDims.offCoord_eq_zero _ _ _ (by decide)]
    simp only [Nat.add_zero]
    unfold GatherDims.start
    rw [dif_pos (show (2 : Fin 3) ∈ (gather_S8x20000x80_S8x100x2_S8x100_n_12_0_0_12_2_111).startIndexMap by decide)]
    rw [show (gather_S8x20000x80_S8x100x2_S8x100_n_12_0_0_12_2_111).siIdx (ix2 b t) ⟨List.idxOf (2 : Fin 3) (gather_S8x20000x80_S8x100x2_S8x100_n_12_0_0_12_2_111).startIndexMap, List.idxOf_lt_length_iff.2 (by decide)⟩ = ix3 b t 1 from by
      funext c; refine Fin.ext ?_
      match c with
      | ⟨0, _⟩ => rfl
      | ⟨1, _⟩ => rfl
      | ⟨2, _⟩ => rfl, g]
    exact clamp_ofNat (by norm_num) _

/-- The box at a picked position. -/
theorem gather_boxes {α : Type} (x : S8x20000x4.Idx → α) (i : IVec S8x100x1 32) (b : Fin 8) (t : Fin 100) (q : Fin 4) (k : Fin 20000)
    (h : i (ix3 b t 0) = BitVec.ofNat 32 k.val) :
    Host.gather gather_S8x20000x4_S8x100x1_S8x100x4_2_1_0_0_1_2_114 x i (ix3 b t q) = x (ix3 b k q) := by
  unfold Host.gather
  congr 1
  funext a
  refine Fin.ext ?_
  match a with
  | ⟨0, _⟩ =>
    show (gather_S8x20000x4_S8x100x1_S8x100x4_2_1_0_0_1_2_114).start (ix3 b t q) i (0 : Fin 3) + (gather_S8x20000x4_S8x100x1_S8x100x4_2_1_0_0_1_2_114).batchCoord (ix3 b t q) (0 : Fin 3) + (gather_S8x20000x4_S8x100x1_S8x100x4_2_1_0_0_1_2_114).offCoord (ix3 b t q) (0 : Fin 3) = _
    rw [GatherDims.start_batching _ _ _ _ (by decide), GatherDims.offCoord_eq_zero _ _ _ (by decide)]
    simp only [Nat.zero_add, Nat.add_zero]
    unfold GatherDims.batchCoord
    rw [dif_pos (show (0 : Fin 3) ∈ (gather_S8x20000x4_S8x100x1_S8x100x4_2_1_0_0_1_2_114).operandBatchingDims by decide)]
    rfl
  | ⟨1, _⟩ =>
    show (gather_S8x20000x4_S8x100x1_S8x100x4_2_1_0_0_1_2_114).start (ix3 b t q) i (1 : Fin 3) + (gather_S8x20000x4_S8x100x1_S8x100x4_2_1_0_0_1_2_114).batchCoord (ix3 b t q) (1 : Fin 3) + (gather_S8x20000x4_S8x100x1_S8x100x4_2_1_0_0_1_2_114).offCoord (ix3 b t q) (1 : Fin 3) = _
    rw [GatherDims.batchCoord_eq_zero _ _ _ (by decide), GatherDims.offCoord_eq_zero _ _ _ (by decide)]
    simp only [Nat.add_zero]
    unfold GatherDims.start
    rw [dif_pos (show (1 : Fin 3) ∈ (gather_S8x20000x4_S8x100x1_S8x100x4_2_1_0_0_1_2_114).startIndexMap by decide)]
    rw [show (gather_S8x20000x4_S8x100x1_S8x100x4_2_1_0_0_1_2_114).siIdx (ix3 b t q) ⟨List.idxOf (1 : Fin 3) (gather_S8x20000x4_S8x100x1_S8x100x4_2_1_0_0_1_2_114).startIndexMap, List.idxOf_lt_length_iff.2 (by decide)⟩ = ix3 b t 0 from by
      funext c; refine Fin.ext ?_
      match c with
      | ⟨0, _⟩ => rfl
      | ⟨1, _⟩ => rfl
      | ⟨2, _⟩ => rfl, h]
    exact clamp_ofNat (by norm_num) _
  | ⟨2, _⟩ =>
    show (gather_S8x20000x4_S8x100x1_S8x100x4_2_1_0_0_1_2_114).start (ix3 b t q) i (2 : Fin 3) + (gather_S8x20000x4_S8x100x1_S8x100x4_2_1_0_0_1_2_114).batchCoord (ix3 b t q) (2 : Fin 3) + (gather_S8x20000x4_S8x100x1_S8x100x4_2_1_0_0_1_2_114).offCoord (ix3 b t q) (2 : Fin 3) = _
    rw [GatherDims.batchCoord_eq_zero _ _ _ (by decide)]
    unfold GatherDims.start
    rw [dif_neg (show (2 : Fin 3) ∉ (gather_S8x20000x4_S8x100x1_S8x100x4_2_1_0_0_1_2_114).startIndexMap by decide)]
    simp only [Nat.zero_add]
    unfold GatherDims.offCoord
    rw [dif_pos (show (2 : Fin 3) ∈ (gather_S8x20000x4_S8x100x1_S8x100x4_2_1_0_0_1_2_114).sKept by decide)]
    rfl

end Cert.ReferenceIdeal.Value

end
-- ==== Proof.RefTrip.lean ====
module

public import proofs.«01_k».proof.Proof.RefRun
public import proofs.«01_k».proof.Proof.RefPick
public import Idealize.ShloMosaic.Lib.WordCmp

@[expose] public section

set_option maxRecDepth 16384

/-!
# One trip of the reference's loop, read at an index
-/

noncomputable section

namespace Cert.ReferenceIdeal.Value

open Idealize.ShloMosaic Idealize.ShloMosaic.TcCoe Idealize.ShloMosaic.StableHlo
open Cert.ReferenceIdeal Cert.ReferenceIdeal.Gen Cert.Nms

variable (V : Valuation τ sig (Elt Ideal))

/-- The scores of row `b`. -/
abbrev scoresOf (b : Fin 8) (j : Fin 20000) : EReal := V (Proc.devRef .tc main_v6_2) (ix2 b j)

/-- The corners of the boxes of row `b`. -/
abbrev boxesOf (b : Fin 8) (j : Fin 20000) (q : Fin 4) : EReal := V (Proc.devRef .tc main_v6_0) (ix3 b j q)

/-- The picked position. -/
theorem pick_at (b : Fin 8) :
    after tripOps0 V (Proc.devRef .tc main_while0b_v44) (ix1 b) = BitVec.ofNat 32 (first (scoresOf V b)).val := by
  rw [← argmax_boxes]
  after_results
  rfl

/-- The picked scores are gathered. -/
theorem best_eq : (after tripOps1 V (Proc.devRef .tc main_while0b_v45) : S8.Idx → EReal)
    = fun j => Host.gather (α := EReal) gather_S8x20000_S8x1_S8_n_1_0_0_1_1_11 (V (Proc.devRef .tc main_v6_2) : S8x20000.Idx → EReal)
        (broadcastInDim S8x1 ![0] bcast_S8_S8x1_0 (V (Proc.devRef .tc main_while0b_v44) : S8.Idx → BitVec 32)) j := by
  after_results
  simp only [TRef.toBuf, TRef.ofBuf, cast_eq]

/-- The picked score. -/
theorem best_at (b : Fin 8) (k : Fin 20000) (h : V (Proc.devRef .tc main_while0b_v44) (ix1 b) = BitVec.ofNat 32 k.val) :
    after tripOps1 V (Proc.devRef .tc main_while0b_v45) (ix1 b) = scoresOf V b k :=
  (congrFun (best_eq V) (ix1 b)).trans (gather_score (V (Proc.devRef .tc main_v6_2) : S8x20000.Idx → EReal) _ b k (by pointwise; exact h))

/-- Whether the picked score is above the bound. -/
theorem keep_at (b : Fin 8) :
    after tripOps2 V (Proc.devRef .tc main_while0b_v47) (ix1 b)
      = BitVec.ofBool (decide (bound < V (Proc.devRef .tc main_while0b_v45) (ix1 b))) := by
  after_results
  pointwise

/-- The picked boxes are gathered. -/
theorem pickBox_eq : (after tripOps3 V (Proc.devRef .tc main_while0b_v48) : S8x4.Idx → EReal)
    = fun j => Host.gather (α := EReal) gather_S8x20000x4_S8x1_S8x4_1_1_0_0_1_1_114 (V (Proc.devRef .tc main_v6_0) : S8x20000x4.Idx → EReal)
        (broadcastInDim S8x1 ![0] bcast_S8_S8x1_0 (V (Proc.devRef .tc main_while0b_v44) : S8.Idx → BitVec 32)) j := by
  after_results
  simp only [TRef.toBuf, TRef.ofBuf, cast_eq]

/-- The picked box. -/
theorem pickBox_at (b : Fin 8) (q : Fin 4) (k : Fin 20000) (h : V (Proc.devRef .tc main_while0b_v44) (ix1 b) = BitVec.ofNat 32 k.val) :
    after tripOps3 V (Proc.devRef .tc main_while0b_v48) (ix2 b q) = boxesOf V b k q :=
  (congrFun (pickBox_eq V) (ix2 b q)).trans (gather_box (V (Proc.devRef .tc main_v6_0) : S8x20000x4.Idx → EReal) _ b q k (by pointwise; exact h))

/-- Whether a box overlaps the picked one too much. -/
theorem over_at (b : Fin 8) (j : Fin 20000) :
    after tripOps4 V (Proc.devRef .tc main_while0b_v95) (ix2 b j)
      = BitVec.ofBool (decide (Ideal.ofBits .f32 0x3F000000#32
          < iou (fun q => V (Proc.devRef .tc main_while0b_v48) (ix2 b q)) (boxesOf V b j))) := by
  after_results
  pointwise [iou, inter, area]

/-- The value an overlapping position gets. -/
theorem low4 : after tripOps4 V (Proc.devRef .tc main_while0b_cst_25) = fun _ => low := by
  after_results
  rfl

/-- The overlapping positions are lowered. -/
theorem supp_at (h : V (Proc.devRef .tc main_while0b_cst_25) = fun _ => low) (b : Fin 8) (j : Fin 20000) :
    after tripOps5 V (Proc.devRef .tc main_while0b_v96) (ix2 b j)
      = Scalar.select (V (Proc.devRef .tc main_while0b_v95) (ix2 b j)) low (scoresOf V b j) := by
  after_results
  show Scalar.select _ (V (Proc.devRef .tc main_while0b_cst_25) _) _ = _
  rw [h]
  rfl

/-- Whether a position is the picked one. -/
theorem isPick_at (b : Fin 8) (j : Fin 20000) :
    after tripOps6 V (Proc.devRef .tc main_while0b_v102) (ix2 b j)
      = IntOp.cmpi .eq (BitVec.ofNat 32 j.val) (V (Proc.devRef .tc main_while0b_v44) (ix1 b)) := by
  after_results
  pointwise

/-- The value the picked position gets. -/
theorem low6 : after tripOps6 V (Proc.devRef .tc main_while0b_cst_26) = fun _ => low := by
  after_results
  rfl

/-- The picked position is lowered. -/
theorem lower_at (h : V (Proc.devRef .tc main_while0b_cst_26) = fun _ => low) (b : Fin 8) (j : Fin 20000) :
    after tripOps7 V (Proc.devRef .tc main_while0b_v103) (ix2 b j)
      = Scalar.select (V (Proc.devRef .tc main_while0b_v102) (ix2 b j)) low (V (Proc.devRef .tc main_while0b_v96) (ix2 b j)) := by
  after_results
  show Scalar.select _ (V (Proc.devRef .tc main_while0b_cst_26) _) _ = _
  rw [h]
  rfl

/-- Writing a row of eight at row `k`, read at an index. -/
theorem putRow_at {α : Type} (x : S100x8.Idx → α) (u : S1x8.Idx → α) (st : Fin 2 → Int) (k : ℕ) (hk : k < 100)
    (h0 : st 0 = k) (h1 : st 1 = 0) (t : Fin 100) (b : Fin 8) :
    Host.dynamicUpdateSlice (s := S100x8) x u st updateFits_S100x8_S1x8 (ix2 t b) = if t.val = k then u (ix2 0 b) else x (ix2 t b) := by
  rw [WordCmp.dynamicUpdateSlice_eq_update (s := S100x8) x u st updateFits_S100x8_S1x8 ![k, 0]
    ⟨rfl, fun a => by match a with
      | ⟨0, _⟩ => show k + 1 ≤ 100; omega
      | ⟨1, _⟩ => show 0 + 8 ≤ 8; omega⟩
    (fun a => by match a with
      | ⟨0, _⟩ => exact h0
      | ⟨1, _⟩ => exact h1)]
  pointwise
  by_cases e : t.val = k
  · have := b.isLt
    rw [dif_pos (by omega), if_pos e]
    congr 2
    simp [e]
  · rw [dif_neg (by omega), if_neg e]

/-- Row `k` of the positions is written. -/
theorem putPick_at (k : ℕ) (hk : k < 100) (h : V (Proc.devRef .tc main_v6_1) = fun _ => BitVec.ofNat 32 k) (t : Fin 100) (b : Fin 8) :
    after tripOps8 V (Proc.devRef .tc main_while0b_v104) (ix2 t b)
      = if t.val = k then V (Proc.devRef .tc main_while0b_v44) (ix1 b) else V (Proc.devRef .tc main_v6_3) (ix2 t b) := by
  after_reads_simp
  simp -implicitDefEqProofs only [TRef.toBuf, TRef.ofBuf, cast_cast, cast_eq]
  refine (putRow_at _ _ _ k hk ?_ rfl t b).trans ?_
  · show BitVec.toInt (V (Proc.devRef .tc main_v6_1) _) = _
    rw [h]
    exact toInt_ofNat (by omega)
  · pointwise

/-- Row `k` of the flags is written. -/
theorem putKeep_at (k : ℕ) (hk : k < 100) (h : V (Proc.devRef .tc main_v6_1) = fun _ => BitVec.ofNat 32 k) (t : Fin 100) (b : Fin 8) :
    after tripOps9 V (Proc.devRef .tc main_while0b_v105) (ix2 t b)
      = if t.val = k then V (Proc.devRef .tc main_while0b_v47) (ix1 b) else V (Proc.devRef .tc main_v6_4) (ix2 t b) := by
  after_reads_simp
  simp -implicitDefEqProofs only [TRef.toBuf, TRef.ofBuf, cast_cast, cast_eq]
  refine (putRow_at _ _ _ k hk ?_ rfl t b).trans ?_
  · show BitVec.toInt (V (Proc.devRef .tc main_v6_1) _) = _
    rw [h]
    exact toInt_ofNat (by omega)
  · pointwise

/-- The trip's last stretch carries the new scores, positions and flags over. -/
theorem carry_scores : after tripOps10 V (Proc.devRef .tc main_v6_2) = V (Proc.devRef .tc main_while0b_v103) := by
  after_results
  rfl
theorem carry_picks : after tripOps10 V (Proc.devRef .tc main_v6_3) = V (Proc.devRef .tc main_while0b_v104) := by
  after_results
  rfl
theorem carry_keeps : after tripOps10 V (Proc.devRef .tc main_v6_4) = V (Proc.devRef .tc main_while0b_v105) := by
  after_results
  rfl

end Cert.ReferenceIdeal.Value

end
-- ==== Proof.RefLoop.lean ====
module

public import proofs.«01_k».proof.Proof.RefTrip
public import Idealize.ShloMosaic.Lib.StableHlo.ReadAt

@[expose] public section

set_option maxRecDepth 16384

/-!
# The reference's loop: after `k` trips the scores are those of `k` rounds
-/

noncomputable section

namespace Cert.ReferenceIdeal.Value

open Idealize.ShloMosaic Idealize.ShloMosaic.TcCoe Idealize.ShloMosaic.StableHlo
open Cert.ReferenceIdeal Cert.ReferenceIdeal.Gen Cert.Nms

section Trip

variable (V : Valuation τ sig (Elt Ideal))

/-! The contents after the first stretches of a trip. -/
def at1 : Valuation τ sig (Elt Ideal) := after tripOps0 V
def at2 : Valuation τ sig (Elt Ideal) := after tripOps1 (at1 V)
def at3 : Valuation τ sig (Elt Ideal) := after tripOps2 (at2 V)
def at4 : Valuation τ sig (Elt Ideal) := after tripOps3 (at3 V)
def at5 : Valuation τ sig (Elt Ideal) := after tripOps4 (at4 V)
def at6 : Valuation τ sig (Elt Ideal) := after tripOps5 (at5 V)
def at7 : Valuation τ sig (Elt Ideal) := after tripOps6 (at6 V)
def at8 : Valuation τ sig (Elt Ideal) := after tripOps7 (at7 V)
def at9 : Valuation τ sig (Elt Ideal) := after tripOps8 (at8 V)
def at10 : Valuation τ sig (Elt Ideal) := after tripOps9 (at9 V)

/-! No stretch changes an array it does not write. -/
theorem keep0 (b : Ref sig .tc) (h : b ∉ tripOps0_W) : at1 V (Proc.devRef .tc b) = V (Proc.devRef .tc b) :=
  after_of_writes_sub _ _ tripOps0_writes h
theorem keep1 (b : Ref sig .tc) (h : b ∉ tripOps1_W) : at2 V (Proc.devRef .tc b) = at1 V (Proc.devRef .tc b) :=
  after_of_writes_sub _ _ tripOps1_writes h
theorem keep2 (b : Ref sig .tc) (h : b ∉ tripOps2_W) : at3 V (Proc.devRef .tc b) = at2 V (Proc.devRef .tc b) :=
  after_of_writes_sub _ _ tripOps2_writes h
theorem keep3 (b : Ref sig .tc) (h : b ∉ tripOps3_W) : at4 V (Proc.devRef .tc b) = at3 V (Proc.devRef .tc b) :=
  after_of_writes_sub _ _ tripOps3_writes h
theorem keep4 (b : Ref sig .tc) (h : b ∉ tripOps4_W) : at5 V (Proc.devRef .tc b) = at4 V (Proc.devRef .tc b) :=
  after_of_writes_sub _ _ tripOps4_writes h
theorem keep5 (b : Ref sig .tc) (h : b ∉ tripOps5_W) : at6 V (Proc.devRef .tc b) = at5 V (Proc.devRef .tc b) :=
  after_of_writes_sub _ _ tripOps5_writes h
theorem keep6 (b : Ref sig .tc) (h : b ∉ tripOps6_W) : at7 V (Proc.devRef .tc b) = at6 V (Proc.devRef .tc b) :=
  after_of_writes_sub _ _ tripOps6_writes h
theorem keep7 (b : Ref sig .tc) (h : b ∉ tripOps7_W) : at8 V (Proc.devRef .tc b) = at7 V (Proc.devRef .tc b) :=
  after_of_writes_sub _ _ tripOps7_writes h
theorem keep8 (b : Ref sig .tc) (h : b ∉ tripOps8_W) : at9 V (Proc.devRef .tc b) = at8 V (Proc.devRef .tc b) :=
  after_of_writes_sub _ _ tripOps8_writes h
theorem keep9 (b : Ref sig .tc) (h : b ∉ tripOps9_W) : at10 V (Proc.devRef .tc b) = at9 V (Proc.devRef .tc b) :=
  after_of_writes_sub _ _ tripOps9_writes h

/-- The picked position stays through the trip. -/
theorem pick1 (b : Fin 8) : at1 V (Proc.devRef .tc main_while0b_v44) (ix1 b) = BitVec.ofNat 32 (first (scoresOf V b)).val := pick_at V b
theorem pick2 (b : Fin 8) : at2 V (Proc.devRef .tc main_while0b_v44) (ix1 b) = BitVec.ofNat 32 (first (scoresOf V b)).val :=
  (congrFun (keep1 V _ (by decide +kernel)) _).trans (pick1 V b)
theorem pick3 (b : Fin 8) : at3 V (Proc.devRef .tc main_while0b_v44) (ix1 b) = BitVec.ofNat 32 (first (scoresOf V b)).val :=
  (congrFun (keep2 V _ (by decide +kernel)) _).trans (pick2 V b)
theorem pick4 (b : Fin 8) : at4 V (Proc.devRef .tc main_while0b_v44) (ix1 b) = BitVec.ofNat 32 (first (scoresOf V b)).val :=
  (congrFun (keep3 V _ (by decide +kernel)) _).trans (pick3 V b)
theorem pick5 (b : Fin 8) : at5 V (Proc.devRef .tc main_while0b_v44) (ix1 b) = BitVec.ofNat 32 (first (scoresOf V b)).val :=
  (congrFun (keep4 V _ (by decide +kernel)) _).trans (pick4 V b)
theorem pick6 (b : Fin 8) : at6 V (Proc.devRef .tc main_while0b_v44) (ix1 b) = BitVec.ofNat 32 (first (scoresOf V b)).val :=
  (congrFun (keep5 V _ (by decide +kernel)) _).trans (pick5 V b)
theorem pick7 (b : Fin 8) : at7 V (Proc.devRef .tc main_while0b_v44) (ix1 b) = BitVec.ofNat 32 (first (scoresOf V b)).val :=
  (congrFun (keep6 V _ (by decide +kernel)) _).trans (pick6 V b)
theorem pick8 (b : Fin 8) : at8 V (Proc.devRef .tc main_while0b_v44) (ix1 b) = BitVec.ofNat 32 (first (scoresOf V b)).val :=
  (congrFun (keep7 V _ (by decide +kernel)) _).trans (pick7 V b)

/-- The scores and the boxes do not change before the trip's end. -/
theorem scores1 (b : Fin 8) : scoresOf (at1 V) b = scoresOf V b := funext fun _ => congrFun (keep0 V _ (by decide +kernel)) _
theorem scores5 (b : Fin 8) : scoresOf (at5 V) b = scoresOf V b := funext fun _ =>
  congrFun ((keep4 V _ (by decide +kernel)).trans ((keep3 V _ (by decide +kernel)).trans ((keep2 V _ (by decide +kernel)).trans
    ((keep1 V _ (by decide +kernel)).trans (keep0 V _ (by decide +kernel)))))) _
theorem boxes3 (b : Fin 8) : boxesOf (at3 V) b = boxesOf V b := funext fun _ => funext fun _ =>
  congrFun ((keep2 V _ (by decide +kernel)).trans ((keep1 V _ (by decide +kernel)).trans (keep0 V _ (by decide +kernel)))) _
theorem boxes4 (b : Fin 8) : boxesOf (at4 V) b = boxesOf V b := funext fun _ => funext fun _ =>
  congrFun ((keep3 V _ (by decide +kernel)).trans ((keep2 V _ (by decide +kernel)).trans ((keep1 V _ (by decide +kernel)).trans
    (keep0 V _ (by decide +kernel))))) _

/-- A trip is one round on every row's scores. -/
theorem trip_scores (b : Fin 8) (j : Fin 20000) :
    after tripOps10 (at10 V) (Proc.devRef .tc main_v6_2) (ix2 b j) = step (boxesOf V b) (scoresOf V b) j := by
  have hbox : (fun q => at4 V (Proc.devRef .tc main_while0b_v48) (ix2 b q)) = boxesOf V b (first (scoresOf V b)) := by
    funext q
    rw [show at4 V (Proc.devRef .tc main_while0b_v48) (ix2 b q) = _ from pickBox_at (at3 V) b q _ (pick3 V b), boxes3]
  have hover : at5 V (Proc.devRef .tc main_while0b_v95) (ix2 b j)
      = BitVec.ofBool (decide (Ideal.ofBits .f32 0x3F000000#32 < iou (boxesOf V b (first (scoresOf V b))) (boxesOf V b j))) := by
    rw [show at5 V (Proc.devRef .tc main_while0b_v95) (ix2 b j) = _ from over_at (at4 V) b j, hbox, boxes4]
  have hsupp : at7 V (Proc.devRef .tc main_while0b_v96) (ix2 b j)
      = Scalar.select (BitVec.ofBool (decide (Ideal.ofBits .f32 0x3F000000#32 < iou (boxesOf V b (first (scoresOf V b))) (boxesOf V b j))))
          low (scoresOf V b j) := by
    refine (congrFun (keep6 V _ (by decide +kernel)) _).trans ?_
    rw [show at6 V (Proc.devRef .tc main_while0b_v96) (ix2 b j) = _ from supp_at (at5 V) (low4 _) b j, hover, scores5]
  rw [carry_scores]
  refine (congrFun (keep9 V _ (by decide +kernel)) _).trans ?_
  refine (congrFun (keep8 V _ (by decide +kernel)) _).trans ?_
  rw [show at8 V (Proc.devRef .tc main_while0b_v103) (ix2 b j) = _ from lower_at (at7 V) (low6 _) b j, show at7 V (Proc.devRef .tc main_while0b_v102) (ix2 b j) = _ from isPick_at (at6 V) b j, pick6, hsupp]
  unfold step
  by_cases e : j = first (scoresOf V b)
  · rw [if_pos e, e]
    simp [Scalar.select, IntOp.cmpi]
  · rw [if_neg e]
    have hne : BitVec.ofNat 32 j.val ≠ BitVec.ofNat 32 (first (scoresOf V b)).val := fun h => e <| by
      have h1 := congrArg BitVec.toNat h
      rw [BitVec.toNat_ofNat, BitVec.toNat_ofNat] at h1
      have := j.isLt
      have := (first (scoresOf V b)).isLt
      apply Fin.ext
      omega
    have h0 : IntOp.cmpi .eq (BitVec.ofNat 32 j.val) (BitVec.ofNat 32 (first (scoresOf V b)).val) = 0#1 := by
      show BitVec.ofBool (_ == _) = 0#1
      rw [beq_eq_false_iff_ne.mpr hne]
      rfl
    rw [h0]
    by_cases g : Ideal.ofBits .f32 0x3F000000#32 < iou (boxesOf V b (first (scoresOf V b))) (boxesOf V b j)
    · simp [Scalar.select, g]
    · simp [Scalar.select, g]

/-- A trip records the picked position in its row. -/
theorem trip_picks (k : ℕ) (hk : k < 100) (h : V (Proc.devRef .tc main_v6_1) = fun _ => BitVec.ofNat 32 k) (t : Fin 100) (b : Fin 8) :
    after tripOps10 (at10 V) (Proc.devRef .tc main_v6_3) (ix2 t b)
      = if t.val = k then BitVec.ofNat 32 (first (scoresOf V b)).val else V (Proc.devRef .tc main_v6_3) (ix2 t b) := by
  have hc : at8 V (Proc.devRef .tc main_v6_1) = fun _ => BitVec.ofNat 32 k := by
    rw [keep7 V _ (by decide +kernel), keep6 V _ (by decide +kernel), keep5 V _ (by decide +kernel), keep4 V _ (by decide +kernel), keep3 V _ (by decide +kernel), keep2 V _ (by decide +kernel), keep1 V _ (by decide +kernel), keep0 V _ (by decide +kernel), h]
  rw [carry_picks]
  refine (congrFun (keep9 V _ (by decide +kernel)) _).trans ?_
  rw [show at9 V (Proc.devRef .tc main_while0b_v104) (ix2 t b) = _ from putPick_at (at8 V) k hk hc t b, pick8]
  rw [keep7 V _ (by decide +kernel), keep6 V _ (by decide +kernel), keep5 V _ (by decide +kernel), keep4 V _ (by decide +kernel), keep3 V _ (by decide +kernel), keep2 V _ (by decide +kernel), keep1 V _ (by decide +kernel), keep0 V _ (by decide +kernel)]

/-- A trip records in its row whether the picked score is above the bound. -/
theorem trip_keeps (k : ℕ) (hk : k < 100) (h : V (Proc.devRef .tc main_v6_1) = fun _ => BitVec.ofNat 32 k) (t : Fin 100) (b : Fin 8) :
    after tripOps10 (at10 V) (Proc.devRef .tc main_v6_4) (ix2 t b)
      = if t.val = k then BitVec.ofBool (decide (bound < scoresOf V b (first (scoresOf V b)))) else V (Proc.devRef .tc main_v6_4) (ix2 t b) := by
  have hkeep : at9 V (Proc.devRef .tc main_while0b_v47) (ix1 b) = BitVec.ofBool (decide (bound < scoresOf V b (first (scoresOf V b)))) := by
    rw [keep8 V _ (by decide +kernel), keep7 V _ (by decide +kernel), keep6 V _ (by decide +kernel), keep5 V _ (by decide +kernel), keep4 V _ (by decide +kernel), keep3 V _ (by decide +kernel), show at3 V (Proc.devRef .tc main_while0b_v47) (ix1 b) = _ from keep_at (at2 V) b, show at2 V (Proc.devRef .tc main_while0b_v45) (ix1 b) = _ from best_at (at1 V) b _ (pick1 V b), scores1]
  have hc : at9 V (Proc.devRef .tc main_v6_1) = fun _ => BitVec.ofNat 32 k := by
    rw [keep8 V _ (by decide +kernel), keep7 V _ (by decide +kernel), keep6 V _ (by decide +kernel), keep5 V _ (by decide +kernel), keep4 V _ (by decide +kernel), keep3 V _ (by decide +kernel), keep2 V _ (by decide +kernel), keep1 V _ (by decide +kernel), keep0 V _ (by decide +kernel), h]
  rw [carry_keeps, show at10 V (Proc.devRef .tc main_while0b_v105) (ix2 t b) = _ from putKeep_at (at9 V) k hk hc t b, hkeep]
  rw [keep8 V _ (by decide +kernel), keep7 V _ (by decide +kernel), keep6 V _ (by decide +kernel), keep5 V _ (by decide +kernel), keep4 V _ (by decide +kernel), keep3 V _ (by decide +kernel), keep2 V _ (by decide +kernel), keep1 V _ (by decide +kernel), keep0 V _ (by decide +kernel)]

end Trip

/-! ## All trips -/

variable (m : (ℓ : Loc nD τ sig) → Buf (Elt Ideal) ℓ) (c : Dev nD)

/-- The class scores of box `j` of row `b`. -/
abbrev clsOf (b : Fin 8) (j : Fin 20000) (l : Fin 80) : EReal := m ((c.tc : Thread nD τ).loc main_arg1) (ix3 b j l)

/-- The corners of box `j` of row `b`. -/
abbrev argBoxes (b : Fin 8) (j : Fin 20000) (q : Fin 4) : EReal := m ((c.tc : Thread nD τ).loc main_arg0) (ix3 b j q)

/-- The best class score of every box of row `b`. -/
abbrev bestOf (b : Fin 8) (j : Fin 20000) : EReal := clsOf m c b j (first (clsOf m c b j))

/-- The maximum of every box's class scores. -/
def maxCls (x : FVec Ideal S8x20000x80 .f32) : FVec Ideal S8x20000 .f32 :=
  Host.reduce FloatOps.maximumf x (constant (F := Ideal) S_ .f32 0xFF800000#32) reducesTo_S8x20000x80_S8x20000_d2 h_S_

/-- Before the loop every box gets that maximum. -/
theorem best_entry (V : Valuation τ sig (Elt Ideal)) :
    after preOps0 V (Proc.devRef .tc main_v0) = maxCls (V (Proc.devRef .tc main_arg1)) := by
  after_results
  rfl

/-- It is compared with the threshold. -/
theorem counts_eq (V : Valuation τ sig (Elt Ideal)) :
    after preOps0 V (Proc.devRef .tc main_v2)
      = cmpf .ogt (maxCls (V (Proc.devRef .tc main_arg1))) (broadcastInDim S8x20000 ![] bcast_S_S8x20000 (constant S_ .f32 0x3C23D70A#32)) := by
  after_results
  rfl
theorem counts_at (y : FVec Ideal S8x20000 .f32) (b : Fin 8) (j : Fin 20000) :
    cmpf .ogt y (broadcastInDim S8x20000 ![] bcast_S_S8x20000 (constant (F := Ideal) S_ .f32 0x3C23D70A#32)) (ix2 b j)
      = BitVec.ofBool (decide (thr < y (ix2 b j))) := by
  pointwise
theorem counts_entry (V : Valuation τ sig (Elt Ideal)) (b : Fin 8) (j : Fin 20000) :
    after preOps0 V (Proc.devRef .tc main_v2) (ix2 b j)
      = BitVec.ofBool (decide (thr < maxCls (V (Proc.devRef .tc main_arg1)) (ix2 b j))) :=
  (congrFun (counts_eq V) (ix2 b j)).trans (counts_at (maxCls (V (Proc.devRef .tc main_arg1))) b j)

/-- The value a box below the threshold gets. -/
theorem low_entry (V : Valuation τ sig (Elt Ideal)) : after preOps0 V (Proc.devRef .tc main_cst_1) = fun _ => low := by
  after_results
  rfl

/-- Boxes below the threshold are lowered. -/
theorem start_entry (V : Valuation τ sig (Elt Ideal)) (h : V (Proc.devRef .tc main_cst_1) = fun _ => low) (b : Fin 8) (j : Fin 20000) :
    after preOps1 V (Proc.devRef .tc main_v3) (ix2 b j)
      = Scalar.select (V (Proc.devRef .tc main_v2) (ix2 b j)) (V (Proc.devRef .tc main_v0) (ix2 b j)) low := by
  after_results
  show Scalar.select _ _ (V (Proc.devRef .tc main_cst_1) _) = _
  rw [h]
  rfl

/-- The loop starts with those scores and with the boxes. -/
theorem scores_entry (V : Valuation τ sig (Elt Ideal)) : after preOps2 V (Proc.devRef .tc main_v6_2) = V (Proc.devRef .tc main_v3) := by
  after_results
  rfl
theorem boxes_entry (V : Valuation τ sig (Elt Ideal)) : after preOps2 V (Proc.devRef .tc main_v6_0) = V (Proc.devRef .tc main_arg0) := by
  after_results
  rfl

/-- The maximum of a box's class scores is its score at its first greatest class. -/
theorem maxCls_at (x : FVec Ideal S8x20000x80 .f32) (b : Fin 8) (j : Fin 20000) :
    maxCls x (ix2 b j) = x (ix3 b j (first fun l : Fin 80 => x (ix3 b j l))) := by
  pointwise [maxCls]
  rw [least]
  exact fold_max_eq (fun l : Fin 80 => x (ix3 b j l))

/-- The scores the first trip meets. -/
theorem entry_scores (b : Fin 8) : scoresOf (atK m 0 c) b = start (bestOf m c b) := by
  funext j
  show after preOps2 (after preOps1 (after preOps0 (launchContents m c))) (Proc.devRef .tc main_v6_2) (ix2 b j) = _
  rw [scores_entry, start_entry _ (low_entry _), counts_entry, best_entry]
  rw [maxCls_at (launchContents m c (Proc.devRef .tc main_arg1)) b j]
  show Scalar.select (BitVec.ofBool (decide (thr < bestOf m c b j))) (bestOf m c b j) low = _
  unfold start
  by_cases g : thr < bestOf m c b j
  · simp [Scalar.select, g]
  · simp [Scalar.select, g]

/-- The scores of row `b` after `k` rounds. -/
abbrev scoresAt (b : Fin 8) (k : ℕ) : Fin 20000 → EReal := rounds (argBoxes m c b) (start (bestOf m c b)) k

/-- The condition changes none of the carried arrays. -/
theorem cond_keeps (V : Valuation τ sig (Elt Ideal)) (b : Ref sig .tc) (h : b ∉ condOps_W) :
    after condOps V (Proc.devRef .tc b) = V (Proc.devRef .tc b) := after_of_writes_sub _ _ condOps_writes h

/-- The contents before condition `k + 1` are those one trip makes of the contents before condition `k`. -/
theorem atK_succ (k : ℕ) : atK m (k + 1) c = after tripOps10 (at10 (after condOps (atK m k c))) := rfl

/-- The boxes stay the argument's. -/
theorem loop_boxes (b : Fin 8) : ∀ k, boxesOf (atK m k c) b = argBoxes m c b
  | 0 => by
    funext j q
    show after preOps2 (after preOps1 (after preOps0 (launchContents m c))) (Proc.devRef .tc main_v6_0) (ix3 b j q) = _
    rw [boxes_entry, after_of_writes_sub _ _ preOps1_writes (by decide +kernel), after_of_writes_sub _ _ preOps0_writes (by decide +kernel)]
  | k + 1 => by
    rw [← loop_boxes b k, atK_succ]
    funext j q
    have h : after tripOps10 (at10 (after condOps (atK m k c))) (Proc.devRef .tc main_v6_0) = atK m k c (Proc.devRef .tc main_v6_0) :=
      (after_of_writes_sub _ _ tripOps10_writes (by decide +kernel)).trans (trip_front_keeps (atK m k c) main_v6_0 (by decide +kernel))
    exact congrFun h (ix3 b j q)

/-- The scores are those of `k` rounds. -/
theorem loop_scores (b : Fin 8) : ∀ k, scoresOf (atK m k c) b = scoresAt m c b k
  | 0 => entry_scores m c b
  | k + 1 => by
    funext j
    rw [atK_succ]
    refine (trip_scores _ b j).trans ?_
    have hs : scoresOf (after condOps (atK m k c)) b = scoresAt m c b k :=
      (funext fun _ => congrFun (cond_keeps _ _ (by decide +kernel)) _).trans (loop_scores b k)
    have hb : boxesOf (after condOps (atK m k c)) b = argBoxes m c b :=
      (funext fun _ => funext fun _ => congrFun (cond_keeps _ _ (by decide +kernel)) _).trans (loop_boxes m c b k)
    rw [hs, hb]
    rfl

/-- The counter counts the trips. -/
theorem loop_ctr (k : ℕ) : after condOps (atK m k c) (Proc.devRef .tc main_v6_1) = fun _ => BitVec.ofNat 32 k := by
  rw [cond_keeps _ _ (by decide +kernel), atK_ctr]
  simp [Scf.iv]

/-- After `k` trips the first `k` rows hold the picked positions. -/
theorem loop_picks (b : Fin 8) : ∀ k, k ≤ 100 → ∀ t : Fin 100, t.val < k →
    atK m k c (Proc.devRef .tc main_v6_3) (ix2 t b) = BitVec.ofNat 32 (first (scoresAt m c b t)).val
  | 0, _, t, h => absurd h (Nat.not_lt_zero _)
  | k + 1, hk, t, h => by
    rw [atK_succ]
    refine (trip_picks _ k (by omega) (loop_ctr m c k) t b).trans ?_
    have hs : scoresOf (after condOps (atK m k c)) b = scoresAt m c b k :=
      (funext fun _ => congrFun (cond_keeps _ _ (by decide +kernel)) _).trans (loop_scores m c b k)
    by_cases e : t.val = k
    · rw [if_pos e, hs, e]
    · rw [if_neg e]
      exact (congrFun (cond_keeps _ _ (by decide +kernel)) _).trans (loop_picks b k (by omega) t (by omega))

/-- After `k` trips the first `k` rows hold whether the picked score is above the bound. -/
theorem loop_keeps (b : Fin 8) : ∀ k, k ≤ 100 → ∀ t : Fin 100, t.val < k →
    atK m k c (Proc.devRef .tc main_v6_4) (ix2 t b)
      = BitVec.ofBool (decide (bound < scoresAt m c b t (first (scoresAt m c b t))))
  | 0, _, t, h => absurd h (Nat.not_lt_zero _)
  | k + 1, hk, t, h => by
    rw [atK_succ]
    refine (trip_keeps _ k (by omega) (loop_ctr m c k) t b).trans ?_
    have hs : scoresOf (after condOps (atK m k c)) b = scoresAt m c b k :=
      (funext fun _ => congrFun (cond_keeps _ _ (by decide +kernel)) _).trans (loop_scores m c b k)
    by_cases e : t.val = k
    · rw [if_pos e, hs, e]
    · rw [if_neg e]
      exact (congrFun (cond_keeps _ _ (by decide +kernel)) _).trans (loop_keeps b k (by omega) t (by omega))

end Cert.ReferenceIdeal.Value

end
-- ==== Proof.RefResults.lean ====
module

public import proofs.«01_k».proof.Proof.RefLoop

@[expose] public section

set_option maxRecDepth 16384

/-!
# The reference's results, read at an index
-/

noncomputable section

namespace Cert.ReferenceIdeal.Value

open Idealize.ShloMosaic Idealize.ShloMosaic.TcCoe Idealize.ShloMosaic.StableHlo
open Cert.ReferenceIdeal Cert.ReferenceIdeal.Gen Cert.Nms

/-! ## The start indices of the gathers -/

/-- The picked positions as start indices, a negative one counted from the end. -/
def posIdx (p : IVec S100x8 32) : IVec S8x100x1 32 :=
  broadcastInDim S8x100x1 ![0, 1] bcast_S8x100_S8x100x1_0_1
    (transpose S8x100 [1, 0] (select (cmpi .slt p (broadcastInDim S100x8 ![] bcast_S_S100x8 (constantI S_ 32 0#32)))
      (addi p (broadcastInDim S100x8 ![] bcast_S_S100x8 (constantI S_ 32 20000#32))) p) transposes_S100x8_S8x100_1_0)

/-- The labels as start indices, a negative one counted from the end. -/
def labIdx (l : IVec S8x100 32) : IVec S8x100x1 32 :=
  broadcastInDim S8x100x1 ![0, 1] bcast_S8x100_S8x100x1_0_1
    (select (cmpi .slt l (broadcastInDim S8x100 ![] bcast_S_S8x100 (constantI S_ 32 0#32)))
      (addi l (broadcastInDim S8x100 ![] bcast_S_S8x100 (constantI S_ 32 80#32))) l)

/-- A word holding a small number is not negative. -/
theorem wrap_ofNat (k : ℕ) (hk : k < 2 ^ 31) (y : BitVec 32) :
    Scalar.select (IntOp.cmpi .slt (BitVec.ofNat 32 k) 0#32) y (BitVec.ofNat 32 k) = BitVec.ofNat 32 k := by
  have h : (BitVec.ofNat 32 k).slt 0#32 = false := by
    rw [← Bool.not_eq_true, BitVec.slt_iff_toInt_lt, toInt_ofNat hk]
    simp
  show (if BitVec.ofBool ((BitVec.ofNat 32 k).slt 0#32) = 1#1 then y else _) = _
  rw [h]
  rfl

theorem posIdx_at (p : IVec S100x8 32) (b : Fin 8) (t : Fin 100) (k : Fin 20000) (h : p (ix2 t b) = BitVec.ofNat 32 k.val) :
    posIdx p (ix3 b t 0) = BitVec.ofNat 32 k.val := by
  pointwise [posIdx]
  rw [h]
  exact wrap_ofNat _ (by have := k.isLt; omega) _

theorem labIdx_at (p : IVec S8x100 32) (b : Fin 8) (t : Fin 100) (k : Fin 80) (h : p (ix2 b t) = BitVec.ofNat 32 k.val) :
    labIdx p (ix3 b t 0) = BitVec.ofNat 32 k.val := by
  pointwise [labIdx]
  rw [h]
  exact wrap_ofNat _ (by have := k.isLt; omega) _

/-- Positions and labels side by side. -/
def bothIdx (p l : IVec S8x100x1 32) : IVec S8x100x2 32 :=
  concatenate S8x100x2 2 [⟨S8x100x1, p⟩, ⟨S8x100x1, l⟩] concatenates_S8x100x1_S8x100x1_S8x100x2_d2

theorem bothIdx_fst (p l : IVec S8x100x1 32) (b : Fin 8) (t : Fin 100) : bothIdx p l (ix3 b t 0) = p (ix3 b t 0) := by
  pointwise [bothIdx]

theorem bothIdx_snd (p l : IVec S8x100x1 32) (b : Fin 8) (t : Fin 100) : bothIdx p l (ix3 b t 1) = l (ix3 b t 0) := by
  pointwise [bothIdx]

/-! ## The stretches after the loop -/

section Post

variable (V : Valuation τ sig (Elt Ideal))

/-- The labels are every box's arg-max. -/
theorem label_eq : after postOps0 V (Proc.devRef .tc main_v7) = labelsOf (V (Proc.devRef .tc main_arg1)) := by
  after_results
  simp -implicitDefEqProofs only [TRef.toBuf, TRef.ofBuf, cast_cast, cast_eq]
  rfl

/-- Every box's label. -/
theorem label_at (b : Fin 8) (j : Fin 20000) :
    after postOps0 V (Proc.devRef .tc main_v7) (ix2 b j)
      = BitVec.ofNat 32 (first fun l : Fin 80 => (V (Proc.devRef .tc main_arg1) (ix3 b j l) : EReal)).val := by
  rw [label_eq, labelsOf_at]

theorem labels_eq : (after postOps1 V (Proc.devRef .tc main_v15) : S8x100.Idx → BitVec 32)
    = fun j => Host.gather (α := BitVec 32) gather_S8x20000_S8x100x1_S8x100_n_1_0_0_1_2_11 (V (Proc.devRef .tc main_v7) : S8x20000.Idx → BitVec 32)
        (posIdx (V (Proc.devRef .tc main_v6_3))) j := by
  after_results
  rfl

theorem scores_eq : (after postOps1 V (Proc.devRef .tc main_v30) : S8x100.Idx → EReal)
    = fun j => Host.gather (α := EReal) gather_S8x20000x80_S8x100x2_S8x100_n_12_0_0_12_2_111 (V (Proc.devRef .tc main_arg1) : S8x20000x80.Idx → EReal)
        (bothIdx (posIdx (V (Proc.devRef .tc main_v6_3))) (labIdx (after postOps1 V (Proc.devRef .tc main_v15)))) j := by
  after_results
  rfl

theorem boxes_eq : (after postOps1 V (Proc.devRef .tc main_v38) : S8x100x4.Idx → EReal)
    = fun j => Host.gather (α := EReal) gather_S8x20000x4_S8x100x1_S8x100x4_2_1_0_0_1_2_114 (V (Proc.devRef .tc main_arg0) : S8x20000x4.Idx → EReal)
        (posIdx (V (Proc.devRef .tc main_v6_3))) j := by
  after_results
  rfl

/-- The flags, transposed. -/
theorem flags_at (b : Fin 8) (t : Fin 100) :
    after postOps1 V (Proc.devRef .tc main_v40) (ix3 b t 0) = V (Proc.devRef .tc main_v6_4) (ix2 t b) := by
  after_results
  pointwise

section
variable (b : Fin 8) (t : Fin 100) (k : Fin 20000) (h : V (Proc.devRef .tc main_v6_3) (ix2 t b) = BitVec.ofNat 32 k.val)
include h

theorem postLabel_at : after postOps1 V (Proc.devRef .tc main_v15) (ix2 b t) = V (Proc.devRef .tc main_v7) (ix2 b k) :=
  (congrFun (labels_eq V) (ix2 b t)).trans (gather_labels (V (Proc.devRef .tc main_v7) : S8x20000.Idx → BitVec 32) _ b t k (posIdx_at _ b t k h))

theorem postScore_at (l : Fin 80) (g : V (Proc.devRef .tc main_v7) (ix2 b k) = BitVec.ofNat 32 l.val) :
    after postOps1 V (Proc.devRef .tc main_v30) (ix2 b t) = V (Proc.devRef .tc main_arg1) (ix3 b k l) :=
  (congrFun (scores_eq V) (ix2 b t)).trans (gather_class (V (Proc.devRef .tc main_arg1) : S8x20000x80.Idx → EReal) _ b t k l
    ((bothIdx_fst _ _ b t).trans (posIdx_at _ b t k h))
    ((bothIdx_snd _ _ b t).trans (labIdx_at _ b t l ((postLabel_at V b t k h).trans g))))

theorem postBox_at (q : Fin 4) : after postOps1 V (Proc.devRef .tc main_v38) (ix3 b t q) = V (Proc.devRef .tc main_arg0) (ix3 b k q) :=
  (congrFun (boxes_eq V) (ix3 b t q)).trans (gather_boxes (V (Proc.devRef .tc main_arg0) : S8x20000x4.Idx → EReal) _ b t q k (posIdx_at _ b t k h))

end

variable (b : Fin 8) (t : Fin 100)

/-- The kept boxes. -/
theorem outBoxes_at (q : Fin 4) (h : V (Proc.devRef .tc main_cst_12) = fun _ => Ideal.ofBits .f32 0xBF800000#32) :
    after postOps3 V (Proc.devRef .tc main_v41) (ix3 b t q)
      = Scalar.select (V (Proc.devRef .tc main_v40) (ix3 b t 0)) (V (Proc.devRef .tc main_v38) (ix3 b t q)) (Ideal.ofBits .f32 0xBF800000#32) := by
  after_reads_at
  rw [h]
  rfl

/-- The kept scores. -/
theorem outScores_at (h : V (Proc.devRef .tc main_cst_13) = fun _ => Ideal.ofBits .f32 0xBF800000#32) :
    after postOps5 V (Proc.devRef .tc main_v42) (ix2 b t)
      = Scalar.select (V (Proc.devRef .tc main_v6_4) (ix2 t b)) (V (Proc.devRef .tc main_v30) (ix2 b t)) (Ideal.ofBits .f32 0xBF800000#32) := by
  after_reads_at
  rw [h]
  rfl

/-- The kept labels. -/
theorem outLabels_at (h : V (Proc.devRef .tc main_c_14) = fun _ => 4294967295#32) :
    after postOps7 V (Proc.devRef .tc main_v43) (ix2 b t)
      = Scalar.select (V (Proc.devRef .tc main_v6_4) (ix2 t b)) (V (Proc.devRef .tc main_v15) (ix2 b t)) 4294967295#32 := by
  after_reads_at
  rw [h]
  rfl

/-- The three fill values. -/
theorem fill2 : after postOps2 V (Proc.devRef .tc main_cst_12) = fun _ => Ideal.ofBits .f32 0xBF800000#32 := by
  after_results
  rfl
theorem fill4 : after postOps4 V (Proc.devRef .tc main_cst_13) = fun _ => Ideal.ofBits .f32 0xBF800000#32 := by
  after_results
  rfl
theorem fill6 : after postOps6 V (Proc.devRef .tc main_c_14) = fun _ => 4294967295#32 := by
  after_results
  rfl

end Post

/-! ## The results -/

variable (m : (ℓ : Loc nD τ sig) → Buf (Elt Ideal) ℓ) (c : Dev nD)

/-! The contents after the stretches following the loop. -/
def post0 : Valuation τ sig (Elt Ideal) := after postOps0 (after condOps (atK m 100 c))
def post1 : Valuation τ sig (Elt Ideal) := after postOps1 (post0 m c)
def post2 : Valuation τ sig (Elt Ideal) := after postOps2 (post1 m c)
def post3 : Valuation τ sig (Elt Ideal) := after postOps3 (post2 m c)
def post4 : Valuation τ sig (Elt Ideal) := after postOps4 (post3 m c)
def post5 : Valuation τ sig (Elt Ideal) := after postOps5 (post4 m c)
def post6 : Valuation τ sig (Elt Ideal) := after postOps6 (post5 m c)

/-! No stretch changes an array it does not write. -/
theorem keepPost0 (b : Ref sig .tc) (h : b ∉ postOps0_W) : post0 m c (Proc.devRef .tc b) = after condOps (atK m 100 c) (Proc.devRef .tc b) :=
  after_of_writes_sub _ _ postOps0_writes h
theorem keepPost1 (b : Ref sig .tc) (h : b ∉ postOps1_W) : post1 m c (Proc.devRef .tc b) = post0 m c (Proc.devRef .tc b) :=
  after_of_writes_sub _ _ postOps1_writes h
theorem keepPost2 (b : Ref sig .tc) (h : b ∉ postOps2_W) : post2 m c (Proc.devRef .tc b) = post1 m c (Proc.devRef .tc b) :=
  after_of_writes_sub _ _ postOps2_writes h
theorem keepPost3 (b : Ref sig .tc) (h : b ∉ postOps3_W) : post3 m c (Proc.devRef .tc b) = post2 m c (Proc.devRef .tc b) :=
  after_of_writes_sub _ _ postOps3_writes h
theorem keepPost4 (b : Ref sig .tc) (h : b ∉ postOps4_W) : post4 m c (Proc.devRef .tc b) = post3 m c (Proc.devRef .tc b) :=
  after_of_writes_sub _ _ postOps4_writes h
theorem keepPost5 (b : Ref sig .tc) (h : b ∉ postOps5_W) : post5 m c (Proc.devRef .tc b) = post4 m c (Proc.devRef .tc b) :=
  after_of_writes_sub _ _ postOps5_writes h
theorem keepPost6 (b : Ref sig .tc) (h : b ∉ postOps6_W) : post6 m c (Proc.devRef .tc b) = post5 m c (Proc.devRef .tc b) :=
  after_of_writes_sub _ _ postOps6_writes h

/-- The box picked in round `t` of row `b`. -/
abbrev pickAt (b : Fin 8) (t : Fin 100) : Fin 20000 := first (scoresAt m c b t)

/-- Whether it is a detection. -/
abbrev keepAt (b : Fin 8) (t : Fin 100) : Prop := bound < scoresAt m c b t (pickAt m c b t)

theorem picks0 (b : Fin 8) (t : Fin 100) :
    post0 m c (Proc.devRef .tc main_v6_3) (ix2 t b) = BitVec.ofNat 32 (pickAt m c b t).val := by
  rw [keepPost0 m c _ (by decide +kernel), cond_keeps _ _ (by decide +kernel)]
  exact loop_picks m c b 100 le_rfl t t.isLt

theorem keeps0 (b : Fin 8) (t : Fin 100) :
    post0 m c (Proc.devRef .tc main_v6_4) (ix2 t b) = BitVec.ofBool (decide (keepAt m c b t)) := by
  rw [keepPost0 m c _ (by decide +kernel), cond_keeps _ _ (by decide +kernel)]
  exact loop_keeps m c b 100 le_rfl t t.isLt

theorem arg0_0 : post0 m c (Proc.devRef .tc main_arg0) = m ((c.tc : Thread nD τ).loc main_arg0) := by
  rw [keepPost0 m c _ (by decide +kernel), cond_keeps _ _ (by decide +kernel)]
  exact atK_keeps m main_arg0 (by decide +kernel) (by decide +kernel) (by decide +kernel) c 100

theorem arg1_0 : post0 m c (Proc.devRef .tc main_arg1) = m ((c.tc : Thread nD τ).loc main_arg1) := by
  rw [keepPost0 m c _ (by decide +kernel), cond_keeps _ _ (by decide +kernel)]
  exact atK_keeps m main_arg1 (by decide +kernel) (by decide +kernel) (by decide +kernel) c 100

theorem label0 (b : Fin 8) (j : Fin 20000) :
    post0 m c (Proc.devRef .tc main_v7) (ix2 b j) = BitVec.ofNat 32 (first (clsOf m c b j)).val := by
  refine (label_at _ b j).trans ?_
  rw [cond_keeps _ _ (by decide +kernel), atK_keeps m main_arg1 (by decide +kernel) (by decide +kernel) (by decide +kernel) c 100]

/-- A choice between two values by a decided proposition. -/
theorem select_decide {α : Type} (p : Prop) [Decidable p] (x y : α) :
    Scalar.select (BitVec.ofBool (decide p)) x y = if p then x else y := by
  by_cases h : p <;> simp [Scalar.select, h]

/-- The boxes of the detections, `-1` elsewhere. -/
theorem result_boxes (b : Fin 8) (t : Fin 100) (q : Fin 4) :
    afterL postI (after condOps (atK m 100 c)) (Proc.devRef .tc main_v41) (ix3 b t q)
      = open Classical in if keepAt m c b t then argBoxes m c b (pickAt m c b t) q else Ideal.ofBits .f32 0xBF800000#32 := by
  have hk : post2 m c (Proc.devRef .tc main_v40) (ix3 b t 0) = BitVec.ofBool (decide (keepAt m c b t)) := by
    rw [keepPost2 m c _ (by decide +kernel)]
    exact (flags_at (post0 m c) b t).trans (keeps0 m c b t)
  have hb : post2 m c (Proc.devRef .tc main_v38) (ix3 b t q) = argBoxes m c b (pickAt m c b t) q := by
    rw [keepPost2 m c _ (by decide +kernel)]
    refine (postBox_at (post0 m c) b t _ (picks0 m c b t) q).trans ?_
    rw [arg0_0]
  show after postOps7 (post6 m c) (Proc.devRef .tc main_v41) (ix3 b t q) = _
  rw [after_of_writes_sub _ _ postOps7_writes (by decide +kernel), keepPost6 m c _ (by decide +kernel), keepPost5 m c _ (by decide +kernel), keepPost4 m c _ (by decide +kernel)]
  refine (outBoxes_at (post2 m c) b t q (fill2 _)).trans ?_
  rw [hk, hb, select_decide]

/-- The best class scores of the detections, `-1` elsewhere. -/
theorem result_scores (b : Fin 8) (t : Fin 100) :
    afterL postI (after condOps (atK m 100 c)) (Proc.devRef .tc main_v42) (ix2 b t)
      = open Classical in if keepAt m c b t then bestOf m c b (pickAt m c b t) else Ideal.ofBits .f32 0xBF800000#32 := by
  have hk : post4 m c (Proc.devRef .tc main_v6_4) (ix2 t b) = BitVec.ofBool (decide (keepAt m c b t)) := by
    rw [keepPost4 m c _ (by decide +kernel), keepPost3 m c _ (by decide +kernel), keepPost2 m c _ (by decide +kernel), keepPost1 m c _ (by decide +kernel)]
    exact keeps0 m c b t
  have hb : post4 m c (Proc.devRef .tc main_v30) (ix2 b t) = bestOf m c b (pickAt m c b t) := by
    rw [keepPost4 m c _ (by decide +kernel), keepPost3 m c _ (by decide +kernel), keepPost2 m c _ (by decide +kernel)]
    refine (postScore_at (post0 m c) b t _ (picks0 m c b t) _ (label0 m c b _)).trans ?_
    rw [arg1_0]
  show after postOps7 (post6 m c) (Proc.devRef .tc main_v42) (ix2 b t) = _
  rw [after_of_writes_sub _ _ postOps7_writes (by decide +kernel), keepPost6 m c _ (by decide +kernel)]
  refine (outScores_at (post4 m c) b t (fill4 _)).trans ?_
  rw [hk, hb, select_decide]

/-- The labels of the detections, `-1` elsewhere. -/
theorem result_labels (b : Fin 8) (t : Fin 100) :
    afterL postI (after condOps (atK m 100 c)) (Proc.devRef .tc main_v43) (ix2 b t)
      = open Classical in if keepAt m c b t then BitVec.ofNat 32 (first (clsOf m c b (pickAt m c b t))).val else 4294967295#32 := by
  have hk : post6 m c (Proc.devRef .tc main_v6_4) (ix2 t b) = BitVec.ofBool (decide (keepAt m c b t)) := by
    rw [keepPost6 m c _ (by decide +kernel), keepPost5 m c _ (by decide +kernel), keepPost4 m c _ (by decide +kernel), keepPost3 m c _ (by decide +kernel), keepPost2 m c _ (by decide +kernel), keepPost1 m c _ (by decide +kernel)]
    exact keeps0 m c b t
  have hb : post6 m c (Proc.devRef .tc main_v15) (ix2 b t) = BitVec.ofNat 32 (first (clsOf m c b (pickAt m c b t))).val := by
    rw [keepPost6 m c _ (by decide +kernel), keepPost5 m c _ (by decide +kernel), keepPost4 m c _ (by decide +kernel), keepPost3 m c _ (by decide +kernel), keepPost2 m c _ (by decide +kernel)]
    exact (postLabel_at (post0 m c) b t _ (picks0 m c b t)).trans (label0 m c b _)
  show after postOps7 (post6 m c) (Proc.devRef .tc main_v43) (ix2 b t) = _
  refine (outLabels_at (post6 m c) b t (fill6 _)).trans ?_
  rw [hk, hb, select_decide]

end Cert.ReferenceIdeal.Value

end
-- ==== Proof.Algebraic.lean ====
/- The two programs' results are equal at the ideal values. -/
module

public import proofs.«01_k».proof.Defs
public import proofs.«01_k».proof.Proof.IdealValue
public import proofs.«01_k».proof.Proof.RefResults

@[expose] public section

set_option maxRecDepth 16384

noncomputable section

namespace Cert.Nms

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)

section
open Cert.ReferenceIdeal Cert.ReferenceIdeal.Gen Cert.ReferenceIdeal.Value

/-- Image `b`'s boxes, best class scores and labels, from the reference's arguments. -/
def refRow (c : Dev nD) (b : Fin 8) : Cert.KernelIdeal.Value.Row where
  box := argBoxes m' c b
  best j := clsOf m' c b j (first (clsOf m' c b j))
  label j := BitVec.ofNat 32 (first (clsOf m' c b j)).val

/-- The reference's boxes. -/
theorem ref_boxes (c : Dev nD) (b : Fin 8) (t : Fin 100) (q : Fin 4) :
    afterL postI (after condOps (atK m' 100 c)) (Proc.devRef .tc main_v41) (ix3 b t q) = (refRow m' c b).outBox q t.val := by
  refine (result_boxes m' c b t q).trans ?_
  unfold Cert.KernelIdeal.Value.Row.outBox Cert.KernelIdeal.Value.Row.keep Cert.KernelIdeal.Value.Row.pick Cert.KernelIdeal.Value.Row.scores refRow
  congr

/-- The reference's scores. -/
theorem ref_scores (c : Dev nD) (b : Fin 8) (t : Fin 100) :
    afterL postI (after condOps (atK m' 100 c)) (Proc.devRef .tc main_v42) (ix2 b t) = (refRow m' c b).outScore t.val := by
  refine (result_scores m' c b t).trans ?_
  unfold Cert.KernelIdeal.Value.Row.outScore Cert.KernelIdeal.Value.Row.keep Cert.KernelIdeal.Value.Row.pick Cert.KernelIdeal.Value.Row.scores refRow
  congr

/-- The reference's labels. -/
theorem ref_labels (c : Dev nD) (b : Fin 8) (t : Fin 100) :
    afterL postI (after condOps (atK m' 100 c)) (Proc.devRef .tc main_v43) (ix2 b t) = (refRow m' c b).outLabel t.val := by
  refine (result_labels m' c b t).trans ?_
  unfold Cert.KernelIdeal.Value.Row.outLabel Cert.KernelIdeal.Value.Row.keep Cert.KernelIdeal.Value.Row.pick Cert.KernelIdeal.Value.Row.scores refRow
  congr

end

/-- Equal arguments, equal rows. -/
theorem rows_eq (c : Dev Cert.KernelIdeal.nD) (b : Fin 8)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    refRow m' c b = Cert.KernelIdeal.Value.rowAt m c b := by
  have e0 : Cert.ReferenceIdeal.Value.argBoxes m' c b = fun j q => Cert.KernelIdeal.Value.argBox m c (ix3 b j q) :=
    funext fun j => funext fun q => congrFun h0 (ix3 b j q)
  have e1 : Cert.ReferenceIdeal.Value.clsOf m' c b = fun j l => Cert.KernelIdeal.Value.argCls m c (ix3 b j l) :=
    funext fun j => funext fun l => congrFun h1 (ix3 b j l)
  unfold refRow
  rw [e0, e1]
  rfl

/-- Both programs run and end with equal results. -/
theorem algebraic : @Cert.algebraic_KernelIdeal_ReferenceIdeal Cert.KernelIdeal.Gen.facts Cert.ReferenceIdeal.Gen.facts := by
  intro m ρ m' ρ' _ hargs
  refine ⟨_, _, _, Cert.KernelIdeal.Gen.run_results m ρ, ?_⟩
  refine (θ_run _ _ _).mono (fun r h c => ?_) (Cert.ReferenceIdeal.Gen.run_results m' ρ')
  have hr : ∀ b : Fin 8, refRow m' c b = Cert.KernelIdeal.Value.rowAt m c b := fun b => rows_eq m m' c b (hargs c).1 (hargs c).2
  obtain ⟨a0, a1, a2, a3, a4⟩ := h c
  refine ⟨a0.trans ?_, a1.trans ?_, a2.trans ?_, a3, a4⟩
  · funext y
    idx_vars y
    refine (ref_boxes m' c y0 y1 y2).trans ?_
    rw [hr y0]
    exact (Cert.KernelIdeal.Value.result_boxes m ρ c y0 y1 y2).symm
  · funext y
    idx_vars y
    refine (ref_scores m' c y0 y1).trans ?_
    rw [hr y0]
    exact (Cert.KernelIdeal.Value.result_scores m ρ c y0 y1).symm
  · funext y
    idx_vars y
    refine (ref_labels m' c y0 y1).trans ?_
    rw [hr y0]
    exact (Cert.KernelIdeal.Value.result_labels m ρ c y0 y1).symm

end Cert.Nms

end
-- ==== Proof.lean ====
module

public import proofs.«01_k».proof.Defs
public import proofs.«01_k».proof.Proof.KernelRun
public import proofs.«01_k».proof.Proof.IdealRun
public import proofs.«01_k».proof.Proof.RefRun
public import proofs.«01_k».proof.Proof.Algebraic

@[expose] public section

noncomputable section

namespace Cert.Proof

open Idealize.ShloMosaic Idealize.SL.Sem

/-- The three programs run and leave their arguments, the kernel read at the ideal values is its own text, and its three
    results are the reference's. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  Cert.Nms.algebraic⟩

end Cert.Proof

end
